-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S40x820x2048 : Shape := ⟨3, ![40, 820, 2048]⟩
abbrev S40 : Shape := ⟨1, ![40]⟩
abbrev S40x2x1792x2048 : Shape := ⟨4, ![40, 2, 1792, 2048]⟩
abbrev S40x2x14x16 : Shape := ⟨4, ![40, 2, 14, 16]⟩
abbrev S40x2x7x2x16 : Shape := ⟨5, ![40, 2, 7, 2, 16]⟩
abbrev S40x7x2x2x16 : Shape := ⟨5, ![40, 7, 2, 2, 16]⟩
abbrev S40x7x1x64 : Shape := ⟨4, ![40, 7, 1, 64]⟩
abbrev S40x820x1792 : Shape := ⟨3, ![40, 820, 1792]⟩
abbrev S40x7x820x2 : Shape := ⟨4, ![40, 7, 820, 2]⟩
abbrev S1x820x2048 : Shape := ⟨3, ![1, 820, 2048]⟩
abbrev S1x2x256x2048 : Shape := ⟨4, ![1, 2, 256, 2048]⟩
abbrev S1x1x1x64 : Shape := ⟨4, ![1, 1, 1, 64]⟩
abbrev S1x820x256 : Shape := ⟨3, ![1, 820, 256]⟩
abbrev S1x1x820x2 : Shape := ⟨4, ![1, 1, 820, 2]⟩
abbrev S832x2048 : Shape := ⟨2, ![832, 2048]⟩
abbrev S2x256x2048 : Shape := ⟨3, ![2, 256, 2048]⟩
abbrev S1 : Shape := ⟨1, ![1]⟩
abbrev S1x416x128 : Shape := ⟨3, ![1, 416, 128]⟩
abbrev S416x128 : Shape := ⟨2, ![416, 128]⟩
abbrev S416 : Shape := ⟨1, ![416]⟩
abbrev S416x1 : Shape := ⟨2, ![416, 1]⟩
abbrev S416x256 : Shape := ⟨2, ![416, 256]⟩
abbrev S1x404x128 : Shape := ⟨3, ![1, 404, 128]⟩
abbrev S404x128 : Shape := ⟨2, ![404, 128]⟩
abbrev S404 : Shape := ⟨1, ![404]⟩
abbrev S404x1 : Shape := ⟨2, ![404, 1]⟩
abbrev S404x256 : Shape := ⟨2, ![404, 256]⟩
abbrev S1x1x1x1 : Shape := ⟨4, ![1, 1, 1, 1]⟩
abbrev S1x1x128x128 : Shape := ⟨4, ![1, 1, 128, 128]⟩
abbrev S128x128 : Shape := ⟨2, ![128, 128]⟩
abbrev S1x128x128 : Shape := ⟨3, ![1, 128, 128]⟩
abbrev S416x2048 : Shape := ⟨2, ![416, 2048]⟩
abbrev S1x256x2048 : Shape := ⟨3, ![1, 256, 2048]⟩
abbrev S256x2048 : Shape := ⟨2, ![256, 2048]⟩
abbrev S1x1x416x1 : Shape := ⟨4, ![1, 1, 416, 1]⟩
abbrev S1x416x256 : Shape := ⟨3, ![1, 416, 256]⟩
abbrev S416x2 : Shape := ⟨2, ![416, 2]⟩
abbrev S1x1x416x2 : Shape := ⟨4, ![1, 1, 416, 2]⟩
abbrev S1x1x404x1 : Shape := ⟨4, ![1, 1, 404, 1]⟩
abbrev S1x404x256 : Shape := ⟨3, ![1, 404, 256]⟩
abbrev S404x2 : Shape := ⟨2, ![404, 2]⟩
abbrev S1x1x404x2 : Shape := ⟨4, ![1, 1, 404, 2]⟩
abbrev S40x820x7x2 : Shape := ⟨4, ![40, 820, 7, 2]⟩
abbrev S40x820x14 : Shape := ⟨3, ![40, 820, 14]⟩

abbrev nBuf : Space → Nat
  | .hbm => 10
  | .vmem => 10
  | .smem => 3
  | _ => 0

abbrev bufTy : (tb : Table) → Fin (tcTables nBuf tb) → BufTy
  | .hbm, ⟨0, _⟩ => ⟨S40x820x2048, .bf16⟩
  | .hbm, ⟨1, _⟩ => ⟨S40x2x1792x2048, .fp8e4m3⟩
  | .hbm, ⟨2, _⟩ => ⟨S40x2x14x16, .f32⟩
  | .hbm, ⟨3, _⟩ => ⟨S40x2x7x2x16, .f32⟩
  | .hbm, ⟨4, _⟩ => ⟨S40x7x2x2x16, .f32⟩
  | .hbm, ⟨5, _⟩ => ⟨S40x7x1x64, .f32⟩
  | .hbm, ⟨6, _⟩ => ⟨S40x820x1792, .fp8e4m3⟩
  | .hbm, ⟨7, _⟩ => ⟨S40x7x820x2, .f32⟩
  | .hbm, ⟨8, _⟩ => ⟨S40x820x7x2, .f32⟩
  | .hbm, ⟨9, _⟩ => ⟨S40x820x14, .f32⟩
  | .local _ .vmem, ⟨0, _⟩ => ⟨S1x820x2048, .bf16⟩
  | .local _ .vmem, ⟨1, _⟩ => ⟨S1x820x2048, .bf16⟩
  | .local _ .vmem, ⟨2, _⟩ => ⟨S1x2x256x2048, .fp8e4m3⟩
  | .local _ .vmem, ⟨3, _⟩ => ⟨S1x2x256x2048, .fp8e4m3⟩
  | .local _ .vmem, ⟨4, _⟩ => ⟨S1x820x256, .fp8e4m3⟩
  | .local _ .vmem, ⟨5, _⟩ => ⟨S1x820x256, .fp8e4m3⟩
  | .local _ .vmem, ⟨6, _⟩ => ⟨S1x1x820x2, .f32⟩
  | .local _ .vmem, ⟨7, _⟩ => ⟨S1x1x820x2, .f32⟩
  | .local _ .vmem, ⟨8, _⟩ => ⟨S832x2048, .bf16⟩
  | .local _ .vmem, ⟨9, _⟩ => ⟨S2x256x2048, .bf16⟩
  | .local _ .smem, ⟨0, _⟩ => ⟨S40, .i32⟩
  | .local _ .smem, ⟨1, _⟩ => ⟨S1x1x1x64, .f32⟩
  | .local _ .smem, ⟨2, _⟩ => ⟨S1x1x1x64, .f32⟩
  | _, _ => ⟨S40x820x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg2_0 : Ref sig .tc := ⟨.smem, 1, rfl⟩
abbrev cc0_stg2_1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![40, 7], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (v1 : BitVec 32) : BitVec 1 :=
  let c0_i32_626 : BitVec 32 := 0#32
  let v645 : BitVec 1 := Scalar.cmpi .sgt v1 c0_i32_626
  let v646 : BitVec 32 := Scalar.extui v645
  let c0_i32_627 : BitVec 32 := 0#32
  let v647 : BitVec 1 := Scalar.cmpi .ne v646 c0_i32_627
  v647

def k0_cond5 (v1 : BitVec 32) : BitVec 1 :=
  let c0_i32_628 : BitVec 32 := 0#32
  let v648 : BitVec 1 := Scalar.cmpi .sle v1 c0_i32_628
  let v649 : BitVec 32 := Scalar.extui v648
  let c0_i32_629 : BitVec 32 := 0#32
  let v650 : BitVec 1 := Scalar.cmpi .ne v649 c0_i32_629
  v650

def k0_cond6 (v1 : BitVec 32) : BitVec 1 :=
  let c416_i32 : BitVec 32 := 416#32
  let v651 : BitVec 1 := Scalar.cmpi .sgt v1 c416_i32
  let v652 : BitVec 32 := Scalar.extui v651
  let c0_i32_630 : BitVec 32 := 0#32
  let v653 : BitVec 1 := Scalar.cmpi .ne v652 c0_i32_630
  v653

def k0_cond7 (v1 : BitVec 32) : BitVec 1 :=
  let c416_i32_631 : BitVec 32 := 416#32
  let v654 : BitVec 1 := Scalar.cmpi .sle v1 c416_i32_631
  let v655 : BitVec 32 := Scalar.extui v654
  let c0_i32_632 : BitVec 32 := 0#32
  let v656 : BitVec 1 := Scalar.cmpi .ne v655 c0_i32_632
  v656

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x820x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x256x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .smem S1x1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x820x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x820x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S40x820x2048 : Shape := ⟨3, ![40, 820, 2048]⟩
abbrev S40 : Shape := ⟨1, ![40]⟩
abbrev S40x2x1792x2048 : Shape := ⟨4, ![40, 2, 1792, 2048]⟩
abbrev S40x2x14x16 : Shape := ⟨4, ![40, 2, 14, 16]⟩
abbrev S40x820x1 : Shape := ⟨3, ![40, 820, 1]⟩
abbrev S40x1x1 : Shape := ⟨3, ![40, 1, 1]⟩
abbrev S1x1x1x252 : Shape := ⟨4, ![1, 1, 1, 252]⟩
abbrev S_ : Shape := ⟨0, ![]⟩
abbrev S40x820x1792 : Shape := ⟨3, ![40, 820, 1792]⟩
abbrev S40x820x14 : Shape := ⟨3, ![40, 820, 14]⟩
abbrev S40x820x16x128 : Shape := ⟨4, ![40, 820, 16, 128]⟩
abbrev S40x820x16 : Shape := ⟨3, ![40, 820, 16]⟩
abbrev S40x820x16x1 : Shape := ⟨4, ![40, 820, 16, 1]⟩
abbrev S40x820x16x252 : Shape := ⟨4, ![40, 820, 16, 252]⟩
abbrev S40x1x1792x2048 : Shape := ⟨4, ![40, 1, 1792, 2048]⟩
abbrev S40x1792x2048 : Shape := ⟨3, ![40, 1792, 2048]⟩
abbrev S40x14x128x16x128 : Shape := ⟨5, ![40, 14, 128, 16, 128]⟩
abbrev S40x1x14x16 : Shape := ⟨4, ![40, 1, 14, 16]⟩
abbrev S40x14x16 : Shape := ⟨3, ![40, 14, 16]⟩
abbrev S40x14x1x16x1 : Shape := ⟨5, ![40, 14, 1, 16, 1]⟩
abbrev S40x820x14x128 : Shape := ⟨4, ![40, 820, 14, 128]⟩
abbrev S40x820x14x1 : Shape := ⟨4, ![40, 820, 14, 1]⟩
abbrev S40x820x14x252 : Shape := ⟨4, ![40, 820, 14, 252]⟩

abbrev nBuf : Space → Nat
  | .hbm => 19
  | .vmem => 7
  | .smem => 0
  | _ => 0

abbrev bufTy : (tb : Table) → Fin (tcTables nBuf tb) → BufTy
  | .hbm, ⟨0, _⟩ => ⟨S40x820x2048, .bf16⟩
  | .hbm, ⟨1, _⟩ => ⟨S40, .i32⟩
  | .hbm, ⟨2, _⟩ => ⟨S40x2x1792x2048, .fp8e4m3⟩
  | .hbm, ⟨3, _⟩ => ⟨S40x2x14x16, .f32⟩
  | .hbm, ⟨4, _⟩ => ⟨S40x820x1, .i32⟩
  | .hbm, ⟨5, _⟩ => ⟨S40x1x1, .i32⟩
  | .hbm, ⟨6, _⟩ => ⟨S40x820x1, .i32⟩
  | .hbm, ⟨7, _⟩ => ⟨S40x820x1, .i1⟩
  | .hbm, ⟨8, _⟩ => ⟨S40x820x1, .i32⟩
  | .hbm, ⟨9, _⟩ => ⟨S1x1x1x252, .i32⟩
  | .hbm, ⟨10, _⟩ => ⟨S1x1x1x252, .f32⟩
  | .hbm, ⟨11, _⟩ => ⟨S_, .f32⟩
  | .hbm, ⟨12, _⟩ => ⟨S1x1x1x252, .f32⟩
  | .hbm, ⟨13, _⟩ => ⟨S1x1x1x252, .f32⟩
  | .hbm, ⟨14, _⟩ => ⟨S_, .f32⟩
  | .hbm, ⟨15, _⟩ => ⟨S1x1x1x252, .f32⟩
  | .hbm, ⟨16, _⟩ => ⟨S1x1x1x252, .f32⟩
  | .hbm, ⟨17, _⟩ => ⟨S40x820x1792, .fp8e4m3⟩
  | .hbm, ⟨18, _⟩ => ⟨S40x820x14, .f32⟩
  | .local _ .vmem, ⟨0, _⟩ => ⟨S40x820x2048, .bf16⟩
  | .local _ .vmem, ⟨1, _⟩ => ⟨S40x820x1, .i32⟩
  | .local _ .vmem, ⟨2, _⟩ => ⟨S40x2x1792x2048, .fp8e4m3⟩
  | .local _ .vmem, ⟨3, _⟩ => ⟨S40x2x14x16, .f32⟩
  | .local _ .vmem, ⟨4, _⟩ => ⟨S1x1x1x252, .f32⟩
  | .local _ .vmem, ⟨5, _⟩ => ⟨S40x820x1792, .fp8e4m3⟩
  | .local _ .vmem, ⟨6, _⟩ => ⟨S40x820x14, .f32⟩
  | _, _ => ⟨S40x820x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S40x820x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x820x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x2x1792x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x2x14x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1x252 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40x820x1792 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40x820x14 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelKit.lean ====
/- What the certificate of `Kernel` is stated over: the schedule of the pipeline's windows, the arrays as the
   region finds them, the prefetched group sizes, each window's block at a point, the staging and scratch memrefs. -/
module

public import proofs.«01_k».proof.Proof.Gen.Kernel.Launch
public import proofs.«01_k».proof.Proof.Gen.Kernel.Skeleton
public import Idealize.ShloMosaic.Lib.Pipeline.Kit
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Window 0 (operand 1 (%arg0)) is fetched at the points ≡ 0 (mod 7), at any contents of the tables (its index map reads none). -/
theorem fetch0_0 (a : (pcfg0 (F := F)).Adm) : ∀ t : Fin (cfg0 a).N, ((cfg0 a).win 0).fetch t = true ↔ t.val % 7 = 0 :=
  (fun t => Pipeline.Window.fetchOf_reads cc0_transform_0 reads0_0 hreads0_0 0 (by decide) (by decide) (Pipeline.Window.sep_of_coord cc0_transform_0 0 0 (fun _ => rfl) (by decide)) (P := 7) (by decide) t : ∀ t : Fin grid0.N, Pipeline.Window.fetchOf grid0 false cc0_transform_0 t = true ↔ t.val % 7 = 0)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 2 (fun _ => rfl) (by decide)) (P := 1) (by decide) t).mpr (Nat.mod_one _) : ∀ t : Fin grid0.N, Pipeline.Window.fetchOf grid0 false cc0_transform_1 t = true)
/-- Window 2 (operand 3 (%2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (result 0 (%3#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 2 (fun _ => rfl) (by decide)) (P := 1) (m := 0) (by decide) rfl t).mpr (Nat.mod_one _) : ∀ t : Fin grid0.N, Pipeline.Window.flushOf grid0 true cc0_transform_3 t = true)
/-- Window 4 (result 1 (%3#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 1 (by decide) (by decide) (Pipeline.Window.sep_of_coord cc0_transform_4 1 1 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_swiglu (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _)

/-! ## @main around the region -/

/-- Core `c`'s TensorCore buffers when the region is entered, as a valuation: after the host operations `hostOps0`. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host operations before it, the region, the host
    operations after it (`Pipeline.hmainP_around`, off `main_chain`). -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro j; fin_cases j <;> simp only [StableHlo.unary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.unary_writes, StableHlo.reshape_writes, Finset.mem_singleton] <;> exact StableHlo.devRef_ne_of_ne (by decide)
/-- The buffers the operations after the region write. -/
def T0 : Finset (Ref sig .tc) := {main_v4, main_v5}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.unary_writes, StableHlo.reshape_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
   . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S40 .i32 := Memref.whole main_arg1
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePostR.arr_in h c 0 rfl).trans ((hA c 0).trans (V_main_arg0 m c)),
      ((h c).2 main_arg1 (by decide : main_arg1 ∈ Pipeline.restRefs sig spec0 \ T0)).trans (V_main_arg1 m c),
      (Pipeline.RDat.FramePostR.arr_in h c 1 rfl).trans ((hA c 1).trans (V_main_arg2 m c)),
      ((h c).2 main_arg3 (by decide : main_arg3 ∈ Pipeline.restRefs sig spec0 \ T0)).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_0 : ∀ t : Fin grid0.N, cond0_0 (grid0.coords t) ↔ t.val % 7 = 0 :=
  (fun t => by
    have ht : t.val < 280 := Nat.lt_of_lt_of_eq t.isLt N_0
    have e0 : (grid0.coords t 0).val = t.val / 7 % 40 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 7 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x820x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2x256x2048 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .smem S1x1x1x64 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x820x256 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x820x2 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S832x2048 .bf16 := Memref.whole cc0_scratch0
abbrev scM0_1 : Memref sig .tc .vmem S2x256x2048 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KernelRun.lean ====
/- The kernel's body, run once from any contents: it ends, and hands back the input blocks and the group sizes as
   they were. -/
module

public import proofs.«01_k».proof.Proof.KernelKit

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body's triple, at any grid point and for any group size: the input blocks and the table of group sizes are
    handed back as they were, the two output blocks and the two scratch buffers at some contents. -/
theorem kernelRun (c : Dev nD) (i : grid0.Coords) (arg3 : Memref sig .tc .vmem S1x820x2048 .bf16) (harg3 : arg3.IsWhole) (arg4 : Memref sig .tc .vmem S1x2x256x2048 .fp8e4m3) (harg4 : arg4.IsWhole) (arg5 : Memref sig .tc .smem S1x1x1x64 .f32) (harg5 : arg5.IsWhole) (arg6 : Memref sig .tc .vmem S1x820x256 .fp8e4m3) (harg6 : arg6.IsWhole) (arg7 : Memref sig .tc .vmem S1x1x820x2 .f32) (harg7 : arg7.IsWhole) (arg8 : Memref sig .tc .vmem S832x2048 .bf16) (harg8 : arg8.IsWhole) (arg9 : Memref sig .tc .vmem S2x256x2048 .bf16) (harg9 : arg9.IsWhole)
    (x0 : Vec F S1x820x2048 .bf16) (x1 : Vec F S1x2x256x2048 .fp8e4m3) (x2 : Vec F S1x1x1x64 .f32) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ tbPt0 c tbM0_0 xt0) -∗ K ⟨⟩))
          ⊢ wp frame (wpE (defs₀ (F := F)) Variants.none c none) E (cc0_swiglu i tbM0_0 htbM0_0 arg3 harg3 arg4 harg4 arg5 harg5 arg6 harg6 arg7 harg7 arg8 harg8 arg9 harg9) K := by
    intro E K
    simp only [cc0_swiglu_eq_skeleton]; unfold cc0_swiglu_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, HT0, Hk⟩
    obtain rfl := harg3.eq_unread hf0; obtain rfl := harg4.eq_unread hf1; obtain rfl := harg5.eq_unread hf2
    sl_exec_parts
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    iexact HT0

end Cert.Kernel.Hand

end
-- ==== Proof.KernelFrame.lean ====
/- The frame of `Kernel`: every execution ends, the argument arrays are unchanged and every semaphore is at zero. What
   the kernel leaves in its two results is not named here. -/
module

public import proofs.«01_k».proof.Proof.KernelRun

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4): nothing reads what the kernel leaves in them, so nothing
    of it is named. -/
def forgets0 : Fin 5 → Bool := fun w => w.val == 3 || w.val == 4

/-- The proof data of the one pipeline on core `c`: the arrays as the region finds them (`V`); after the body at
    point `t` each input's buffer at its block and the outputs, FORGOTTEN, at `Dat.unnamed`; the invariant the class's
    and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d)
    ∗ (∃ d, owns (c : Thread nD τ) (ms0_4 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (∃ d, owns (c : Thread nD τ) (ms0_3 m hO t) fullShare d)
    ∗ (∃ d, owns (c : Thread nD τ) (ms0_4 m hO t) fullShare d))

set_option maxHeartbeats 2000000 in
/-- The body at any point: the inputs' memrefs hold their blocks, so the run applies; the invariant hands the body its
    scratch buffers at some contents (and the generator register) and takes them back at some contents; the core owes
    nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq, PhiA0_eq]
  iintro ⟨⟨⟨⟨HS0, HS1⟩, Hg⟩, HT0⟩, Ho, ⟨%d0, H0⟩, ⟨%d1, H1⟩, ⟨%d2, H2⟩, ⟨%d3, H3⟩, ⟨%d4, H4⟩⟩
  iapply ((kernelRun c (grid0.coords t) _ _ _ _ _ _ _ _ _ _ _ _ _ _ (iblk m hO c 0 t) (iblk m hO c 1 t) (iblk m hO c 2 t) (tbl m 0)) Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HT0]; · iexact HT0
  iintro ⟨H0, H1, H2, H3, H4, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_around_T_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePostR ((Pipeline.pin pcfgs fun _ => adm m hO) 0) (fun c => (dats m hO 0 c).toRForget forgets0) T0 (V m)) r ∧ r.2.sem = fun _ => 0) :=
  Pipeline.θ_run_frameP_around_T_forget (Q' := _) pcfgs (fun _ => adm m hO) (dats m hO) (0 : Fin 1) launch0 defs₀ Variants.none forgets0 T0 m ρ main
    (hbody := fun c => (body_obligation m hO c).loose) (hshare := fun c => (dats m hO 0 c).share_full fun _ => rfl)
    (howed := fun _ _ => rfl) (V₀ := V0 m) (opss := [hostOps1])
    (hsub := sfx_sub) (hfresh := sfx_fresh) (hkeep := sfx_keeps) (hT := sfx_writes) (hmain := hmain m Variants.none) (hA := A_eq m hO) (hpf := V_pre m) (hΦ := fun _ _ => rfl)

/-- The run without the counters: every input array of the pipeline ends unchanged, and so does every buffer that no
    window stages and no host operation after the region writes. -/
theorem run_main (hO : Ok m) : θ_run defs (onTc (τ := τ) (main (F := F))) (s₀ m ρ) (Pipeline.RDat.FramePostR ((Pipeline.pin pcfgs fun _ => adm m hO) 0) (fun c => (dats m hO 0 c).toRForget forgets0) T0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO)

/-- The frame claim at any `F`: every execution ends, the argument arrays unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.Kernel.Hand

end
-- ==== Proof.IdealKit.lean ====
/- What the certificate of `KernelIdeal` is stated over: the schedule of the pipeline's windows, the arrays as the
   region finds them, the prefetched group sizes, each window's block at a point, the staging and scratch memrefs. -/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Window 0 (operand 1 (%arg0)) is fetched at the points ≡ 0 (mod 7), at any contents of the tables (its index map reads none). -/
theorem fetch0_0 (a : (pcfg0 (F := F)).Adm) : ∀ t : Fin (cfg0 a).N, ((cfg0 a).win 0).fetch t = true ↔ t.val % 7 = 0 :=
  (fun t => Pipeline.Window.fetchOf_reads cc0_transform_0 reads0_0 hreads0_0 0 (by decide) (by decide) (Pipeline.Window.sep_of_coord cc0_transform_0 0 0 (fun _ => rfl) (by decide)) (P := 7) (by decide) t : ∀ t : Fin grid0.N, Pipeline.Window.fetchOf grid0 false cc0_transform_0 t = true ↔ t.val % 7 = 0)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 2 (fun _ => rfl) (by decide)) (P := 1) (by decide) t).mpr (Nat.mod_one _) : ∀ t : Fin grid0.N, Pipeline.Window.fetchOf grid0 false cc0_transform_1 t = true)
/-- Window 2 (operand 3 (%2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (result 0 (%3#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 2 (fun _ => rfl) (by decide)) (P := 1) (m := 0) (by decide) rfl t).mpr (Nat.mod_one _) : ∀ t : Fin grid0.N, Pipeline.Window.flushOf grid0 true cc0_transform_3 t = true)
/-- Window 4 (result 1 (%3#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 1 (by decide) (by decide) (Pipeline.Window.sep_of_coord cc0_transform_4 1 1 (fun _ => rfl) (by decide)) (P := 1) (m := 0) (by decide) rfl t).mpr (Nat.mod_one _) : ∀ t : Fin grid0.N, Pipeline.Window.flushOf grid0 true cc0_transform_4 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_swiglu (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _)

/-! ## @main around the region -/

/-- Core `c`'s TensorCore buffers when the region is entered, as a valuation: after the host operations `hostOps0`. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host operations before it, the region, the host
    operations after it (`Pipeline.hmainP_around`, off `main_chain`). -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The operations after the region touch the pipeline's arrays and the bypassing buffers only. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro j; fin_cases j <;> simp only [StableHlo.unary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.unary_writes, StableHlo.reshape_writes, Finset.mem_singleton] <;> exact StableHlo.devRef_ne_of_ne (by decide)
/-- The buffers the operations after the region write. -/
def T0 : Finset (Ref sig .tc) := {main_v4, main_v5}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.unary_writes, StableHlo.reshape_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
   . -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S40 .i32 := Memref.whole main_arg1
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePostR.arr_in h c 0 rfl).trans ((hA c 0).trans (V_main_arg0 m c)),
      ((h c).2 main_arg1 (by decide : main_arg1 ∈ Pipeline.restRefs sig spec0 \ T0)).trans (V_main_arg1 m c),
      (Pipeline.RDat.FramePostR.arr_in h c 1 rfl).trans ((hA c 1).trans (V_main_arg2 m c)),
      ((h c).2 main_arg3 (by decide : main_arg3 ∈ Pipeline.restRefs sig spec0 \ T0)).trans (V_main_arg3 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 7) — by arithmetic of the point. -/
theorem hcond0_0 : ∀ t : Fin grid0.N, cond0_0 (grid0.coords t) ↔ t.val % 7 = 0 :=
  (fun t => by
    have ht : t.val < 280 := Nat.lt_of_lt_of_eq t.isLt N_0
    have e0 : (grid0.coords t 0).val = t.val / 7 % 40 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 7 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x820x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2x256x2048 .fp8e4m3 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .smem S1x1x1x64 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x820x256 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x820x2 .f32 := spec0_4.stage ((cfgM m hO).slots t 4)
abbrev hs0_4 (hO : Ok m) (t : Fin (cfgM m hO).N) : (ms0_4 m hO t).IsWhole := hstage0_4 (((cfgM m hO).slots t 4).cast nbuf0_4)
/-- The scratch operands: whole scoped buffers of the kernel's own, passed beside the windows. -/
abbrev scM0_0 : Memref sig .tc .vmem S832x2048 .bf16 := Memref.whole cc0_scratch0
abbrev scM0_1 : Memref sig .tc .vmem S2x256x2048 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.IdealRun.lean ====
/- The kernel's body, run once from any contents: it ends, and hands back the input blocks and the group sizes as
   they were. -/
module

public import proofs.«01_k».proof.Proof.IdealKit

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body's triple, at any grid point and for any group size: the input blocks and the table of group sizes are
    handed back as they were, the two output blocks and the two scratch buffers at some contents. -/
theorem kernelRun (c : Dev nD) (i : grid0.Coords) (arg3 : Memref sig .tc .vmem S1x820x2048 .bf16) (harg3 : arg3.IsWhole) (arg4 : Memref sig .tc .vmem S1x2x256x2048 .fp8e4m3) (harg4 : arg4.IsWhole) (arg5 : Memref sig .tc .smem S1x1x1x64 .f32) (harg5 : arg5.IsWhole) (arg6 : Memref sig .tc .vmem S1x820x256 .fp8e4m3) (harg6 : arg6.IsWhole) (arg7 : Memref sig .tc .vmem S1x1x820x2 .f32) (harg7 : arg7.IsWhole) (arg8 : Memref sig .tc .vmem S832x2048 .bf16) (harg8 : arg8.IsWhole) (arg9 : Memref sig .tc .vmem S2x256x2048 .bf16) (harg9 : arg9.IsWhole)
    (x0 : Vec F S1x820x2048 .bf16) (x1 : Vec F S1x2x256x2048 .fp8e4m3) (x2 : Vec F S1x1x1x64 .f32) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ tbPt0 c tbM0_0 xt0) -∗ K ⟨⟩))
          ⊢ wp frame (wpE (defs₀ (F := F)) Variants.none c none) E (cc0_swiglu i tbM0_0 htbM0_0 arg3 harg3 arg4 harg4 arg5 harg5 arg6 harg6 arg7 harg7 arg8 harg8 arg9 harg9) K := by
    intro E K
    simp only [cc0_swiglu_eq_skeleton]; unfold cc0_swiglu_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, HT0, Hk⟩
    obtain rfl := harg3.eq_unread hf0; obtain rfl := harg4.eq_unread hf1; obtain rfl := harg5.eq_unread hf2
    sl_exec_parts
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _, _; isplitr; swap; · iexact H3
      ipureintro; rfl
    isplitl [H4]
    · iexists _, _; isplitr; swap; · iexact H4
      ipureintro; rfl
    isplitl [HS0]
    · iexists _, _; isplitr; swap; · iexact HS0
      ipureintro; rfl
    isplitl [HS1]
    · iexists _, _; isplitr; swap; · iexact HS1
      ipureintro; rfl
    iexact HT0

end Cert.KernelIdeal.Hand

end
-- ==== Proof.IdealFrame.lean ====
/- The frame of `KernelIdeal`: every execution ends, the argument arrays are unchanged and every semaphore is at zero. What
   the kernel leaves in its two results is not named here. -/
module

public import proofs.«01_k».proof.Proof.IdealRun

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4): nothing reads what the kernel leaves in them, so nothing
    of it is named. -/
def forgets0 : Fin 5 → Bool := fun w => w.val == 3 || w.val == 4

/-- The proof data of the one pipeline on core `c`: the arrays as the region finds them (`V`); after the body at
    point `t` each input's buffer at its block and the outputs, FORGOTTEN, at `Dat.unnamed`; the invariant the class's
    and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, h⟩ => Pipeline.Dat.unnamed (cfg := (cfgM m hO)) ⟨4, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d)
    ∗ (∃ d, owns (c : Thread nD τ) (ms0_4 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (∃ d, owns (c : Thread nD τ) (ms0_3 m hO t) fullShare d)
    ∗ (∃ d, owns (c : Thread nD τ) (ms0_4 m hO t) fullShare d))

set_option maxHeartbeats 2000000 in
/-- The body at any point: the inputs' memrefs hold their blocks, so the run applies; the invariant hands the body its
    scratch buffers at some contents (and the generator register) and takes them back at some contents; the core owes
    nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq, PhiA0_eq]
  iintro ⟨⟨⟨⟨HS0, HS1⟩, Hg⟩, HT0⟩, Ho, ⟨%d0, H0⟩, ⟨%d1, H1⟩, ⟨%d2, H2⟩, ⟨%d3, H3⟩, ⟨%d4, H4⟩⟩
  iapply ((kernelRun c (grid0.coords t) _ _ _ _ _ _ _ _ _ _ _ _ _ _ (iblk m hO c 0 t) (iblk m hO c 1 t) (iblk m hO c 2 t) (tbl m 0)) Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HT0]; · iexact HT0
  iintro ⟨H0, H1, H2, H3, H4, HS0, HS1, HT0⟩
  isplitl [HS0 HS1 Hg HT0]
  · isplitl [HS0 HS1 Hg]
    · isplitl [HS0 HS1]
      · isplitl [HS0]
        · iexact HS0
        iexact HS1
      iexact Hg
    iexact HT0
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_around_T_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePostR ((Pipeline.pin pcfgs fun _ => adm m hO) 0) (fun c => (dats m hO 0 c).toRForget forgets0) T0 (V m)) r ∧ r.2.sem = fun _ => 0) :=
  Pipeline.θ_run_frameP_around_T_forget (Q' := _) pcfgs (fun _ => adm m hO) (dats m hO) (0 : Fin 1) launch0 defs₀ Variants.none forgets0 T0 m ρ main
    (hbody := fun c => (body_obligation m hO c).loose) (hshare := fun c => (dats m hO 0 c).share_full fun _ => rfl)
    (howed := fun _ _ => rfl) (V₀ := V0 m) (opss := [hostOps1])
    (hsub := sfx_sub) (hfresh := sfx_fresh) (hkeep := sfx_keeps) (hT := sfx_writes) (hmain := hmain m Variants.none) (hA := A_eq m hO) (hpf := V_pre m) (hΦ := fun _ _ => rfl)

/-- The run without the counters: every input array of the pipeline ends unchanged, and so does every buffer that no
    window stages and no host operation after the region writes. -/
theorem run_main (hO : Ok m) : θ_run defs (onTc (τ := τ) (main (F := F))) (s₀ m ρ) (Pipeline.RDat.FramePostR ((Pipeline.pin pcfgs fun _ => adm m hO) 0) (fun c => (dats m hO 0 c).toRForget forgets0) T0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO)

/-- The frame claim at any `F`: every execution ends, the argument arrays unchanged and every semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Hand

end
-- ==== Proof.Spec.lean ====
/- The kernel's mathematics over the extended reals, with no program in it: the quantiser of a block of 128 entries, and
   the two ways its power-of-two scale is found. -/
module

public import Idealize.ShloMosaic.Lib.Pipeline.Value
public import Idealize.ShloMosaic.Lib.Pointwise
public import Idealize.ShloMosaic.Lib.ValueIdx

@[expose] public section

noncomputable section

namespace Cert.Spec

open Idealize.ShloMosaic

/-- The power of two with exponent `k`. -/
def two (k : ℤ) : EReal := (((2 : ℝ) ^ k : ℝ) : EReal)

/-- The constant the largest magnitude is multiplied by (the f32 number nearest 1/448). -/
def c448 : EReal := Ideal.ofBits .f32 0x3B124925#32

/-- The power-of-two scale of a block whose scaled largest magnitude is `a`: 1 when `a` is below every normal number,
    else the least of the powers of two above `a`, at most `2 ^ 126`. -/
def scale (a : EReal) : EReal :=
  if a < two (-126) then 1
  else (Finset.univ : Finset (Fin 252)).fold min ⊤ fun k => if a < two ((k.val : ℤ) - 125) then two ((k.val : ℤ) - 125) else two 126

/-- A value divided by its block's scale and clipped to the code format's range. -/
def code (g s : EReal) : EReal :=
  min (Ideal.ofBits .f32 0x43E00000#32) (max (Ideal.ofBits .f32 0xC3E00000#32) (Ideal.div g s))

/-- The largest magnitude of a block. -/
def amax (h : Fin 128 → EReal) : EReal := (Finset.univ : Finset (Fin 128)).fold max ⊥ fun k => max (h k) (-(h k))

/-- The scale of a block. -/
def sc (h : Fin 128 → EReal) : EReal := scale (amax h * c448)

/-- The codes of a block. -/
def cd (h : Fin 128 → EReal) (k : Fin 128) : EReal := code (h k) (sc h)

/-- The candidate exponent in lane `c`. -/
def cand (c : ℕ) : BitVec 32 := IntOp.minsi (BitVec.ofNat 32 c) 252#32

/-- The scale's biased exponent, found as the largest exponent whose power of two does not exceed `a`, plus one. -/
def kexp (a : EReal) : BitVec 32 :=
  let e : BitVec 32 := Ideal.fptosi 32 ((Finset.univ : Finset (Fin 256)).fold max ⊥ fun c =>
    Scalar.select (Ideal.cmp .oge a (Ideal.ofBits .f32 (IntOp.shli .vector (cand c.val) 23#32))) (((cand c.val).toInt : ℝ) : EReal) 0)
  Scalar.select (IntOp.cmpi .eq e 0#32) 127#32 (e + 1#32)

/-- The scale whose bits are assembled from the biased exponent. -/
def kscale (e : BitVec 32) : EReal := Ideal.ofBits .f32 (IntOp.shli .vector e 23#32)

/-- The scale's reciprocal, whose bits are assembled from the biased exponent. -/
def kinv (e : BitVec 32) : EReal := Ideal.ofBits .f32 (IntOp.shli .vector (254#32 - e) 23#32)

theorem two_lt {j k : ℤ} (h : j < k) : two j < two k := by
  unfold two; exact_mod_cast zpow_lt_zpow_right₀ (by norm_num : (1 : ℝ) < 2) h

theorem two_le {j k : ℤ} (h : j ≤ k) : two j ≤ two k := by
  unfold two; exact_mod_cast zpow_le_zpow_right₀ (by norm_num : (1 : ℝ) ≤ 2) h

private theorem bits_fields : ∀ c : Fin 255, ((BitVec.ofNat 32 c.val <<< 23).extractLsb' 23 8).toNat = c.val
    ∧ ((BitVec.ofNat 32 c.val <<< 23).extractLsb' 0 23).toNat = 0 ∧ ((BitVec.ofNat 32 c.val <<< 23).extractLsb' 31 1 == 1#1) = false := by
  decide +kernel

/-- The f32 number with biased exponent `c` and no fraction is the power of two `2 ^ (c - 127)`. -/
theorem ofBits_shift (c : ℕ) (h1 : 1 ≤ c) (h2 : c < 255) :
    Ideal.ofBits .f32 (BitVec.ofNat 32 c <<< 23) = two ((c : ℤ) - 127) := by
  obtain ⟨e1, e2, e3⟩ := bits_fields ⟨c, h2⟩
  simp only at e1 e2 e3
  show Ideal.ieee 8 23 (BitVec.ofNat 32 c <<< 23) = _
  unfold Ideal.ieee
  generalize hx : BitVec.ofNat 32 c <<< 23 = x at *
  simp only [Nat.reduceAdd, e1, e2, e3]
  rw [if_neg (by norm_num; omega), if_neg (by omega)]
  unfold two
  congr 1
  simp only [Bool.false_eq_true, if_false, one_mul, add_zero]
  have : ((c : ℤ) - (2 ^ (8 - 1) - 1) - ((23 : ℕ) : ℤ)) = ((c : ℤ) - 127) - 23 := by norm_num
  rw [this, zpow_sub₀ (by norm_num)]
  push_cast
  norm_num
  ring

theorem shli_23 (x : BitVec 32) : IntOp.shli .vector x 23#32 = x <<< 23 := by
  unfold IntOp.shli; rw [if_pos (by decide)]; rfl

theorem cand_eq : ∀ c : Fin 256, cand c.val = BitVec.ofNat 32 (min c.val 252) := by decide +kernel

theorem cand_toInt : ∀ c : Fin 256, (cand c.val).toInt = ((min c.val 252 : ℕ) : ℤ) := by decide +kernel

/-- The number in lane `c`: zero in lane 0, else a power of two. -/
theorem cand_val (c : Fin 256) : Ideal.ofBits .f32 (IntOp.shli .vector (cand c.val) 23#32)
    = if c.val = 0 then 0 else two (((min c.val 252 : ℕ) : ℤ) - 127) := by
  rw [cand_eq, shli_23]
  split
  · next h => rw [h]; exact Ideal.ofBits_zero_f32
  · exact ofBits_shift _ (by omega) (by omega)

/-- The number in lane `c`. -/
def lv (c : ℕ) : EReal := if c = 0 then 0 else two (((min c 252 : ℕ) : ℤ) - 127)

theorem fptosi_small (n : ℕ) (hn : n ≤ 252) : Ideal.fptosi 32 (((n : ℕ) : ℝ) : EReal) = BitVec.ofNat 32 n := by
  show BitVec.ofInt 32 (max _ (min _ (if (0 : ℝ) ≤ (n : ℝ) then ⌊(n : ℝ)⌋ else ⌈(n : ℝ)⌉))) = _
  rw [if_pos (by positivity), Int.floor_natCast]
  have : max (-((2 ^ (32 - 1) : ℕ) : ℤ)) (min (((2 ^ (32 - 1) : ℕ) : ℤ) - 1) (n : ℤ)) = (n : ℤ) := by
    norm_num; omega
  rw [this]; rfl

/-- The largest lane reached. -/
def lanes (a : EReal) : EReal := (Finset.univ : Finset (Fin 256)).fold max ⊥ fun c =>
    Scalar.select (Ideal.cmp .oge a (Ideal.ofBits .f32 (IntOp.shli .vector (cand c.val) 23#32))) (((cand c.val).toInt : ℝ) : EReal) 0

theorem lane_eq (a : EReal) (c : Fin 256) :
    Scalar.select (Ideal.cmp .oge a (Ideal.ofBits .f32 (IntOp.shli .vector (cand c.val) 23#32))) (((cand c.val).toInt : ℝ) : EReal) 0
      = if lv c.val ≤ a then (((min c.val 252 : ℕ) : ℝ) : EReal) else 0 := by
  rw [cand_val, cand_toInt]
  simp only [Int.cast_natCast]
  change Scalar.select (BitVec.ofBool (decide (lv c.val ≤ a))) _ _ = _
  by_cases h : lv c.val ≤ a
  · rw [if_pos h]; simp only [h, decide_true]; rfl
  · rw [if_neg h]; simp only [h, decide_false]; rfl

theorem lanes_small (a : EReal) (ha : a < two (-126)) : lanes a = 0 := by
  apply le_antisymm
  · refine Finset.sup_le (f := _) (s := Finset.univ) fun c _ => ?_
    rw [lane_eq]
    split
    · next h =>
      by_cases hc : c.val = 0
      · rw [hc]; simp
      · rw [lv, if_neg hc] at h
        exact absurd (lt_of_le_of_lt h ha) (not_lt.mpr (two_le (by omega)))
    · exact le_rfl
  · refine le_trans ?_ (Finset.le_sup (f := fun c : Fin 256 => Scalar.select (Ideal.cmp .oge a (Ideal.ofBits .f32 (IntOp.shli .vector (cand c.val) 23#32))) (((cand c.val).toInt : ℝ) : EReal) 0) (Finset.mem_univ 0))
    rw [lane_eq]
    split <;> simp

theorem lanes_big (a : EReal) (n : ℕ) (h1 : 1 ≤ n) (h2 : n ≤ 252) (ha : two ((n : ℤ) - 127) ≤ a)
    (hb : n = 252 ∨ a < two ((n : ℤ) - 126)) : lanes a = ((n : ℝ) : EReal) := by
  apply le_antisymm
  · refine Finset.sup_le (f := _) (s := Finset.univ) fun c _ => ?_
    rw [lane_eq]
    split
    · next h =>
      have : min c.val 252 ≤ n := by
        by_contra hlt
        rcases hb with rfl | hb
        · omega
        · rw [lv, if_neg (by omega)] at h
          exact absurd (lt_of_le_of_lt h hb) (not_lt.mpr (two_le (by omega)))
      exact_mod_cast this
    · exact_mod_cast Nat.zero_le n
  · refine le_trans ?_ (Finset.le_sup (f := fun c : Fin 256 => Scalar.select (Ideal.cmp .oge a (Ideal.ofBits .f32 (IntOp.shli .vector (cand c.val) 23#32))) (((cand c.val).toInt : ℝ) : EReal) 0) (Finset.mem_univ ⟨n, by omega⟩))
    rw [lane_eq]
    simp only
    rw [min_eq_left h2, if_pos (by rw [lv, if_neg (by omega), min_eq_left h2]; exact ha)]

theorem scale_small (a : EReal) (ha : a < two (-126)) : scale a = 1 := by
  unfold scale; rw [if_pos ha]

theorem scale_big (a : EReal) (n : ℕ) (h1 : 1 ≤ n) (h2 : n ≤ 252) (ha : two ((n : ℤ) - 127) ≤ a)
    (hb : n = 252 ∨ a < two ((n : ℤ) - 126)) : scale a = two ((n : ℤ) - 126) := by
  unfold scale
  rw [if_neg (not_lt.mpr (le_trans (two_le (by omega)) ha))]
  apply le_antisymm
  · refine le_trans (Finset.inf_le (f := fun k : Fin 252 => if a < two ((k.val : ℤ) - 125) then two ((k.val : ℤ) - 125) else two 126) (Finset.mem_univ ⟨n - 1, by omega⟩)) ?_
    have e : (((⟨n - 1, by omega⟩ : Fin 252).val : ℤ) - 125) = (n : ℤ) - 126 := by simp only; omega
    simp only at e
    simp only [e]
    split
    · exact le_rfl
    · next h =>
      rcases hb with rfl | hb
      · exact two_le (by norm_num)
      · exact absurd hb h
  · refine Finset.le_inf (f := _) (s := Finset.univ) fun k _ => ?_
    split
    · next h =>
      apply two_le
      by_contra hlt
      exact absurd (lt_of_lt_of_le h (two_le (by omega))) (not_lt.mpr ha)
    · exact two_le (by omega)

/-- Every `a` is below the least normal number, or has a biased exponent between 1 and 252 (252 for everything above). -/
theorem exponent_cases (a : EReal) : a < two (-126) ∨ ∃ n : ℕ, 1 ≤ n ∧ n ≤ 252 ∧ two ((n : ℤ) - 127) ≤ a ∧ (n = 252 ∨ a < two ((n : ℤ) - 126)) := by
  classical
  by_cases h : a < two (-126)
  · exact .inl h
  · right
    rw [not_lt] at h
    have hP : two (((1 : ℕ) : ℤ) - 127) ≤ a := by simpa using h
    refine ⟨Nat.findGreatest (fun c => two ((c : ℤ) - 127) ≤ a) 252, ?_, Nat.findGreatest_le _, ?_, ?_⟩
    · exact Nat.le_findGreatest (by norm_num) hP
    · exact Nat.findGreatest_spec (P := fun c : ℕ => two ((c : ℤ) - 127) ≤ a) (m := 1) (by norm_num) hP
    · by_cases hm : Nat.findGreatest (fun c : ℕ => two ((c : ℤ) - 127) ≤ a) 252 = 252
      · exact .inl hm
      · right
        have hl := Nat.findGreatest_le (P := fun c : ℕ => two ((c : ℤ) - 127) ≤ a) 252
        have := Nat.findGreatest_is_greatest (P := fun c : ℕ => two ((c : ℤ) - 127) ≤ a) (n := 252)
          (k := Nat.findGreatest (fun c : ℕ => two ((c : ℤ) - 127) ≤ a) 252 + 1) (Nat.lt_succ_self _) (by omega)
        rw [not_le] at this
        refine lt_of_lt_of_eq this ?_
        congr 1; push_cast; ring

private theorem word_facts : ∀ n : Fin 253, 1 ≤ n.val →
    Scalar.select (IntOp.cmpi .eq (BitVec.ofNat 32 n.val) 0#32) 127#32 (BitVec.ofNat 32 n.val + 1#32) = BitVec.ofNat 32 (n.val + 1)
    ∧ 254#32 - BitVec.ofNat 32 (n.val + 1) = BitVec.ofNat 32 (253 - n.val) := by decide +kernel

theorem kexp_eq (a : EReal) : kexp a = Scalar.select (IntOp.cmpi .eq (Ideal.fptosi 32 (lanes a)) 0#32) 127#32 (Ideal.fptosi 32 (lanes a) + 1#32) := rfl

theorem kexp_small (a : EReal) (ha : a < two (-126)) : kexp a = 127#32 := by
  have : Ideal.fptosi 32 (0 : EReal) = 0#32 := by
    have := fptosi_small 0 (by norm_num)
    rw [Nat.cast_zero] at this; exact this
  rw [kexp_eq, lanes_small a ha, this]; rfl

theorem kexp_big (a : EReal) (n : ℕ) (h1 : 1 ≤ n) (h2 : n ≤ 252) (ha : two ((n : ℤ) - 127) ≤ a)
    (hb : n = 252 ∨ a < two ((n : ℤ) - 126)) : kexp a = BitVec.ofNat 32 (n + 1) := by
  rw [kexp_eq, lanes_big a n h1 h2 ha hb, fptosi_small n h2]
  exact (word_facts ⟨n, by omega⟩ h1).1

theorem two_zero : two 0 = 1 := by unfold two; norm_num

theorem div_two (g : EReal) (k : ℤ) : Ideal.div g (two k) = g * two (-k) := by
  unfold Ideal.div
  have hp : (0 : ℝ) < (2 : ℝ) ^ k := by positivity
  rw [if_neg (by unfold two; exact_mod_cast hp.ne')]
  congr 1
  unfold two
  rw [← EReal.coe_inv, zpow_neg]

/-- The scale assembled from the exponent found is the least power of two above `a`. -/
theorem kscale_kexp (a : EReal) : kscale (kexp a) = scale a := by
  unfold kscale
  rcases exponent_cases a with h | ⟨n, h1, h2, ha, hb⟩
  · rw [kexp_small a h, scale_small a h, shli_23]
    exact (ofBits_shift 127 (by norm_num) (by norm_num)).trans (by norm_num; exact two_zero)
  · rw [kexp_big a n h1 h2 ha hb, scale_big a n h1 h2 ha hb, shli_23, ofBits_shift _ (by omega) (by omega)]
    congr 1; push_cast; ring

/-- Multiplying by the assembled reciprocal divides by the scale. -/
theorem mul_kinv (g a : EReal) : g * kinv (kexp a) = Ideal.div g (scale a) := by
  unfold kinv
  rcases exponent_cases a with h | ⟨n, h1, h2, ha, hb⟩
  · rw [kexp_small a h, scale_small a h, shli_23, ← two_zero, div_two]
    congr 1
    exact (ofBits_shift 127 (by norm_num) (by norm_num)).trans (by norm_num)
  · rw [kexp_big a n h1 h2 ha hb, scale_big a n h1 h2 ha hb, (word_facts ⟨n, by omega⟩ h1).2, shli_23, ofBits_shift _ (by simp only; omega) (by simp only; omega), div_two]
    congr 2; simp only; push_cast; omega

end Cert.Spec
-- ==== Proof.Block.lean ====
/- The kernel's quantiser of `n` rows of 128 entries as its program spells it, read entry by entry over the extended
   reals. -/
module

public import proofs.«01_k».proof.Proof.Spec

@[expose] public section

noncomputable section

namespace Cert.Spec

open Idealize.ShloMosaic Idealize.ShloMosaic.ValueIdx

section
variable {F : FTy → Type} [FloatOps F] {n : ℕ}

/-- The matrix shape `[n, k]`. -/
abbrev SM (n k : ℕ) : Shape := ⟨2, ![n, k]⟩
/-- The vector shape `[n]`. -/
abbrev SV (n : ℕ) : Shape := ⟨1, ![n]⟩

/-- A row's largest magnitude times the constant. -/
def kamax (hr : (SM n 128).Reduces [1] (SV n)) (hs : (SV n).ShapeCasts (SM n 1)) (h : FVec F (SM n 128) .f32) : FVec F (SM n 1) .f32 :=
  mulf (shapeCast (SM n 1) (multiReduction .maximumf [1] (SV n) (absf h) 0xFF800000#32 hr (.inl rfl) rfl) hs)
    (broadcast (SM n 1) (Scalar.ofBits (F := F) .f32 0x3B124925#32))

/-- The biased exponent found from a row's scaled largest magnitude. -/
def kexpo (hr : (SM n 256).Reduces [1] (SV n)) (hs : (SV n).ShapeCasts (SM n 1)) (hi : (SM n 256).Iotas .tc 32 [1])
    (hb : (SM n 1).Broadcasts (SM n 256)) (a : FVec F (SM n 1) .f32) : IVec (SM n 1) 32 :=
  let l : IVec (SM n 256) 32 := minsi (iota .tc (SM n 256) 32 [1] hi) (broadcast (SM n 256) 252#32)
  let e : IVec (SM n 1) 32 := fptosi 32 (shapeCast (SM n 1) (multiReduction .maximumf [1] (SV n)
    (select (cmpf .oge (broadcastTo (SM n 256) a hb) (bitcastToFloat (F := F) .f32 (shli l (broadcast (SM n 256) 23#32)))) (sitofp (F := F) .f32 l)
      (broadcast (SM n 256) (Scalar.ofBits (F := F) .f32 0x00000000#32))) 0xFF800000#32 hr (.inl rfl) rfl) hs)
  select (cmpi .eq e (broadcast (SM n 1) 0#32)) (broadcast (SM n 1) 127#32) (addi e (broadcast (SM n 1) 1#32))

/-- The scale of the biased exponent. -/
def kscl (e : IVec (SM n 1) 32) : FVec F (SM n 1) .f32 := bitcastToFloat .f32 (shli e (broadcast (SM n 1) 23#32))

/-- The rows' codes, before their cast to the code format. -/
def kcode (hb : (SM n 1).Broadcasts (SM n 128)) (e : IVec (SM n 1) 32) (h : FVec F (SM n 128) .f32) : FVec F (SM n 128) .f32 :=
  minimumf (broadcast (SM n 128) (Scalar.ofBits (F := F) .f32 0x43E00000#32)) (maximumf (broadcast (SM n 128) (Scalar.ofBits (F := F) .f32 0xC3E00000#32))
    (mulf h (broadcastTo (SM n 128) (bitcastToFloat (F := F) .f32 (shli (subi (broadcast (SM n 1) 254#32) e) (broadcast (SM n 1) 23#32))) hb)))
end

section
variable {n : ℕ}

/-- A vector viewed as a column, read at a row. -/
theorem col_apply {α : Type} (hs : (SV n).ShapeCasts (SM n 1)) (v : (SV n).Idx → α) (i : Fin n) :
    shapeCast (SM n 1) v hs (ValueIdx.ix2 i 0) = v (ValueIdx.ix1 i) :=
  shapeCast_apply v hs (ValueIdx.ix2 i 0) (ValueIdx.ix1 i) (by
    rw [Shape.rowMajor_val_one, Shape.rowMajor_val_two]; show i.val = i.val * 1 + 0; omega)

/-- A column repeated along rows, read at an entry. -/
theorem row_apply {α : Type} (k : ℕ) (hb : (SM n 1).Broadcasts (SM n k)) (v : (SM n 1).Idx → α) (i : Fin n) (l : Fin k) :
    broadcastTo (SM n k) v hb (ValueIdx.ix2 i l) = v (ValueIdx.ix2 i 0) :=
  broadcastTo_apply v hb (ValueIdx.ix2 i l) (ValueIdx.ix2 i 0) fun a => match a with
    | ⟨0, _⟩ => by
      show i.val = if n = 1 then 0 else i.val
      split
      · have := i.isLt; omega
      · rfl
    | ⟨1, _⟩ => rfl

/-- A row's maximum, from minus infinity. -/
theorem rowMax_apply {k : ℕ} (hr : (SM n k).Reduces [1] (SV n)) (v : FVec Ideal (SM n k) .f32) (i : Fin n) :
    multiReduction .maximumf [1] (SV n) v 0xFF800000#32 hr (.inl rfl) rfl (ValueIdx.ix1 i)
      = (Finset.univ : Finset (Fin k)).fold max (⊥ : EReal) fun c => v (ValueIdx.ix2 i c) := by
  refine (Ideal.multiReduction_maximumf_single v _ hr (.inl rfl) rfl (ValueIdx.ix1 i)).trans ?_
  have hbot : (FloatOps.ofBits (F := Ideal) .f32 (FKind.maximumf.neutral .f32 (.inl rfl))) = (⊥ : EReal) := by
    show Ideal.ieee 8 23 0xFF800000#32 = ⊥
    unfold Ideal.ieee; simp
  rw [hbot]
  refine congrArg (fun f => (Finset.univ : Finset (Fin k)).fold max (⊥ : EReal) f) (funext fun c => ?_)
  show v _ = v _
  congr 1
  funext a
  match a with
  | ⟨0, _⟩ => rfl
  | ⟨1, _⟩ => rfl

theorem kamax_apply (hr : (SM n 128).Reduces [1] (SV n)) (hs : (SV n).ShapeCasts (SM n 1)) (h : FVec Ideal (SM n 128) .f32) (i : Fin n) :
    kamax hr hs h (ValueIdx.ix2 i 0) = amax (fun k => h (ValueIdx.ix2 i k)) * c448 := by
  show shapeCast _ _ hs (ValueIdx.ix2 i 0) * c448 = _
  rw [col_apply, rowMax_apply]
  rfl

theorem kexpo_apply (hr : (SM n 256).Reduces [1] (SV n)) (hs : (SV n).ShapeCasts (SM n 1)) (hi : (SM n 256).Iotas .tc 32 [1])
    (hb : (SM n 1).Broadcasts (SM n 256)) (a : FVec Ideal (SM n 1) .f32) (i : Fin n) :
    kexpo hr hs hi hb a (ValueIdx.ix2 i 0) = kexp (a (ValueIdx.ix2 i 0)) := by
  have key : ∀ e : FVec Ideal (SM n 1) .f32, e (ValueIdx.ix2 i 0) = lanes (a (ValueIdx.ix2 i 0)) →
      select (cmpi .eq (fptosi 32 e) (broadcast (SM n 1) 0#32)) (broadcast (SM n 1) 127#32) (addi (fptosi 32 e) (broadcast (SM n 1) 1#32)) (ValueIdx.ix2 i 0)
        = kexp (a (ValueIdx.ix2 i 0)) := by
    intro e he
    show Scalar.select (IntOp.cmpi .eq (Ideal.fptosi 32 (e (ValueIdx.ix2 i 0))) 0#32) 127#32 (Ideal.fptosi 32 (e (ValueIdx.ix2 i 0)) + 1#32) = _
    rw [he]; rfl
  refine key _ ?_
  rw [col_apply, rowMax_apply]
  unfold lanes
  refine congrArg (fun f => (Finset.univ : Finset (Fin 256)).fold max (⊥ : EReal) f) (funext fun c => ?_)
  show Scalar.select (Ideal.cmp .oge (broadcastTo (SM n 256) a hb (ValueIdx.ix2 i c)) (Ideal.ofBits .f32 (IntOp.shli .vector (IntOp.minsi (BitVec.ofNat 32 (0 * 256 + c.val)) 252#32) 23#32)))
    (((IntOp.minsi (BitVec.ofNat 32 (0 * 256 + c.val)) 252#32).toInt : ℝ) : EReal) (Ideal.ofBits .f32 0x00000000#32) = _
  rw [row_apply, Nat.zero_mul, Nat.zero_add, Ideal.ofBits_zero_f32]
  rfl

theorem kscl_apply (e : IVec (SM n 1) 32) (i : Fin n) : kscl (F := Ideal) e (ValueIdx.ix2 i 0) = kscale (e (ValueIdx.ix2 i 0)) := rfl

theorem kcode_apply (hb : (SM n 1).Broadcasts (SM n 128)) (e : IVec (SM n 1) 32) (h : FVec Ideal (SM n 128) .f32) (i : Fin n) (l : Fin 128) :
    kcode hb e h (ValueIdx.ix2 i l) = min (Ideal.ofBits .f32 0x43E00000#32) (max (Ideal.ofBits .f32 0xC3E00000#32) (h (ValueIdx.ix2 i l) * kinv (e (ValueIdx.ix2 i 0)))) := by
  show min _ (max _ (h (ValueIdx.ix2 i l) * broadcastTo (SM n 128) _ hb (ValueIdx.ix2 i l))) = _
  rw [row_apply]
  rfl

variable (hr : (SM n 128).Reduces [1] (SV n)) (hs : (SV n).ShapeCasts (SM n 1)) (hr2 : (SM n 256).Reduces [1] (SV n)) (hi : (SM n 256).Iotas .tc 32 [1])
    (hb2 : (SM n 1).Broadcasts (SM n 256)) (hb : (SM n 1).Broadcasts (SM n 128)) (h : FVec Ideal (SM n 128) .f32)

/-- The program's scale of a row is the block's scale. -/
theorem rowScale (i : Fin n) : kscl (F := Ideal) (kexpo hr2 hs hi hb2 (kamax hr hs h)) (ValueIdx.ix2 i 0) = sc fun k => h (ValueIdx.ix2 i k) := by
  rw [kscl_apply, kexpo_apply, kamax_apply, kscale_kexp]; rfl

/-- The program's codes of a row are the block's codes. -/
theorem rowCode (i : Fin n) (l : Fin 128) :
    kcode hb (kexpo hr2 hs hi hb2 (kamax hr hs h)) h (ValueIdx.ix2 i l) = cd (fun k => h (ValueIdx.ix2 i k)) l := by
  rw [kcode_apply, kexpo_apply, kamax_apply, mul_kinv]; rfl

end
end Cert.Spec
-- ==== Proof.Pieces.lean ====
/- What one run of the kernel's body writes, block by block, at the extended reals: the quantised rows of x, the scaled
   weights, and the rows' hidden values with their codes and scales. -/
module

public import proofs.«01_k».proof.Proof.IdealRun
public import proofs.«01_k».proof.Proof.Block
public import Idealize.ShloMosaic.Lib.MatmulPlain

@[expose] public section

set_option maxRecDepth 16384

noncomputable section

namespace Cert.KernelIdeal.Hand

open Cert.KernelIdeal.Gen Cert.Spec
open Idealize.ShloMosaic Idealize.ShloMosaic.TcCoe

/-! ## The mathematics of one grid point -/

/-- Entry `l` of the block of 128 that holds entry `k`. -/
def lane {n : ℕ} (k : Fin (n * 128)) (l : Fin 128) : Fin (n * 128) := ⟨k.val / 128 * 128 + l.val, by have := k.isLt; have := l.isLt; omega⟩

/-- A row of x quantised in blocks of 128 and read back: code times scale. -/
def xqE (x : Fin 2048 → EReal) (k : Fin 2048) : EReal :=
  cd (fun l => x (lane (n := 16) k l)) ⟨k.val % 128, Nat.mod_lt _ (by decide)⟩ * sc (fun l => x (lane (n := 16) k l))

/-- A row's hidden value from its gate and up products, zero from row `gs` on. -/
def hidE (gs : BitVec 32) (r : ℕ) (x wg wu : Fin 2048 → EReal) : EReal :=
  if (r : ℤ) < gs.toInt then
    ((∑ k, x k * wg k) * Ideal.logistic (∑ k, x k * wg k)) * ∑ k, x k * wu k
  else 0

/-! ## The body's blocks as program text -/

section
variable {F : FTy → Type} [FloatOps F] {n : ℕ}

/-- A block of x quantised and read back. -/
def kxq (hc : (⟨3, ![1, n, 128]⟩ : Shape).ShapeCasts (SM n 128)) (hr : (SM n 128).Reduces [1] (SV n)) (hs : (SV n).ShapeCasts (SM n 1))
    (hr2 : (SM n 256).Reduces [1] (SV n)) (hi : (SM n 256).Iotas .tc 32 [1]) (hb2 : (SM n 1).Broadcasts (SM n 256))
    (hb : (SM n 1).Broadcasts (SM n 128)) (hid : (SM n 128).ShapeCasts (SM n 128)) (v : Vec F ⟨3, ![1, n, 128]⟩ .bf16) : FVec F (SM n 128) .bf16 :=
  let h : FVec F (SM n 128) .f32 := extf .f32 (shapeCast (SM n 128) v hc) bitsLt_bf16_f32
  let e := kexpo hr2 hs hi hb2 (kamax hr hs h)
  shapeCast (SM n 128) (truncf .bf16 (mulf (extf .f32 (truncf .fp8e4m3 (kcode hb e h) bitsLt_fp8e4m3_f32) bitsLt_fp8e4m3_f32)
    (broadcastTo (SM n 128) (kscl e) hb)) bitsLt_bf16_f32) hid

/-- A block of weights times its scale. -/
def kwt (s : Elt F .f32) (v : Vec F S1x1x128x128 .fp8e4m3) : FVec F S1x128x128 .bf16 :=
  shapeCast S1x128x128 (mulf (extf .bf16 (shapeCast S128x128 v shapeCasts_S1x1x128x128_S128x128) bitsLt_fp8e4m3_bf16)
    (broadcast S128x128 (Scalar.truncf .bf16 bitsLt_bf16_f32 s : F .bf16))) shapeCasts_S128x128_S1x128x128

/-- A chunk's product with one set of weights. -/
def kdot (x : Vec F S416x2048 .bf16) (w : Vec F S1x256x2048 .bf16) : FVec F S416x256 .f32 :=
  matmul dot_S416x2048_S256x2048_S416x256_1_1_0_0_n_n none x (shapeCast S256x2048 w shapeCasts_S1x256x2048_S256x2048)
    (constant S416x256 .f32 0x00000000#32)

/-- A chunk's hidden values, one block of 128 columns from column `off`, the chunk's first row being `r0`. -/
def khid (off : ℕ) (hsl : S416x256.Slices ![0, off] S416x128) (r0 gs : BitVec 32) (x : Vec F S416x2048 .bf16) (wg wu : Vec F S1x256x2048 .bf16) : FVec F S416x128 .f32 :=
  let g : FVec F S416x128 .f32 := extractStridedSlice S416x128 ![0, off] (kdot x wg) hsl
  let u : FVec F S416x128 .f32 := extractStridedSlice S416x128 ![0, off] (kdot x wu) hsl
  select (broadcastTo S416x128 (shapeCast S416x1 (cmpi .slt (addi (broadcast S416x1 r0) (iota .tc S416x1 32 [0] iota_S416x1_d0_w32)) (broadcast S416x1 gs))
      shapeCasts_S416x1_S416x1) broadcasts_S416x1_S416x128)
    (mulf (mulf g (divf (broadcast S416x128 (Scalar.ofBits (F := F) .f32 0x3F800000#32)) (addf (broadcast S416x128 (Scalar.ofBits (F := F) .f32 0x3F800000#32))
      (exp (subf (broadcast S416x128 (Scalar.ofBits (F := F) .f32 0x00000000#32)) g))))) u)
    (broadcast S416x128 (Scalar.ofBits (F := F) .f32 0x00000000#32))

/-- The biased exponents of a chunk's block of hidden values. -/
def kexh (h : FVec F S416x128 .f32) : IVec S416x1 32 :=
  kexpo (F := F) reduces_S416x256_S416 shapeCasts_S416_S416x1 iota_S416x256_d1_w32 broadcasts_S416x1_S416x256
    (kamax reduces_S416x128_S416 shapeCasts_S416_S416x1 h)

/-- The codes of a chunk's block of hidden values. -/
def kch (h : FVec F S416x128 .f32) : FVec F S416x128 .fp8e4m3 :=
  truncf .fp8e4m3 (kcode broadcasts_S416x1_S416x128 (kexh h) h) bitsLt_fp8e4m3_f32

end

end Cert.KernelIdeal.Hand
end
-- ==== Proof.Lists.lean ====
/- The stores of one run of the kernel's body, as the blocks of Pieces.lean. -/
module

public import proofs.«01_k».proof.Proof.Pieces

@[expose] public section

set_option maxRecDepth 16384

noncomputable section

namespace Cert.KernelIdeal.Hand

open Cert.KernelIdeal.Gen Cert.Spec
open Idealize.ShloMosaic Idealize.ShloMosaic.TcCoe

section
variable {F : FTy → Type} [FloatOps F]
variable (c : Dev nD) (i : grid0.Coords) (arg3 : Memref sig .tc .vmem S1x820x2048 .bf16) (harg3 : arg3.IsWhole) (arg4 : Memref sig .tc .vmem S1x2x256x2048 .fp8e4m3) (harg4 : arg4.IsWhole) (arg5 : Memref sig .tc .smem S1x1x1x64 .f32) (harg5 : arg5.IsWhole)
    (arg8 : Memref sig .tc .vmem S832x2048 .bf16) (arg9 : Memref sig .tc .vmem S2x256x2048 .bf16)
    (x0 : Vec F S1x820x2048 .bf16) (x1 : Vec F S1x2x256x2048 .fp8e4m3) (x2 : Vec F S1x1x1x64 .f32)

/-- Block `k` of the rows of chunk 0 of x. -/
def xpiece0 (k : Fin 16) : View.Piece (Elt F) S832x2048 .bf16 :=
  ⟨Rect.unit ![0, 128 * k.val] S416x128.size (fun a => by have := k.isLt; fin_cases a <;> simp <;> omega),
    kxq shapeCasts_S1x416x128_S416x128 reduces_S416x128_S416 shapeCasts_S416_S416x1 reduces_S416x256_S416 iota_S416x256_d1_w32
      broadcasts_S416x1_S416x256 broadcasts_S416x1_S416x128 shapeCasts_S416x128_S416x128
      (View.readAt (Elt F) arg3.view (Rect.unit (s := S1x820x2048) ![0, 0, 128 * k.val] S1x416x128.size (fun a => by have := k.isLt; fin_cases a <;> simp <;> omega)).toLoadRect (harg3.unread x0))⟩

/-- Block `k` of the rows of chunk 1 of x. -/
def xpiece1 (k : Fin 16) : View.Piece (Elt F) S832x2048 .bf16 :=
  ⟨Rect.unit ![416, 128 * k.val] S404x128.size (fun a => by have := k.isLt; fin_cases a <;> simp <;> omega),
    kxq shapeCasts_S1x404x128_S404x128 reduces_S404x128_S404 shapeCasts_S404_S404x1 reduces_S404x256_S404 iota_S404x256_d1_w32
      broadcasts_S404x1_S404x256 broadcasts_S404x1_S404x128 shapeCasts_S404x128_S404x128
      (View.readAt (Elt F) arg3.view (Rect.unit (s := S1x820x2048) ![0, 416, 128 * k.val] S1x404x128.size (fun a => by have := k.isLt; fin_cases a <;> simp <;> omega)).toLoadRect (harg3.unread x0))⟩

/-- The block of weights that scale `q` belongs to. -/
def wpiece (q : Fin 64) : View.Piece (Elt F) S2x256x2048 .bf16 :=
  ⟨Rect.unit ![q.val / 32, 128 * (q.val / 16 % 2), 128 * (q.val % 16)] S1x128x128.size (fun a => by have := q.isLt; fin_cases a <;> simp <;> omega),
    kwt (View.readAt (Elt F) arg5.view (Rect.unit (s := S1x1x1x64) ![0, 0, 0, q.val] S1x1x1x1.size (fun a => by have := q.isLt; fin_cases a <;> simp <;> omega)).toLoadRect (harg5.unread x2) (Shape.Idx.first (s := S1x1x1x1) (by decide)))
      (View.readAt (Elt F) arg4.view (Rect.unit (s := S1x2x256x2048) ![0, q.val / 32, 128 * (q.val / 16 % 2), 128 * (q.val % 16)] S1x1x128x128.size (fun a => by have := q.isLt; fin_cases a <;> simp <;> omega)).toLoadRect (harg4.unread x1))⟩

/-- The stores of chunk 0 of x. -/
def xlist0 : List (View.Piece (Elt F) S832x2048 .bf16) := (List.finRange 16).reverse.map (xpiece0 arg3 harg3 x0)
/-- The stores of chunk 1 of x. -/
def xlist1 : List (View.Piece (Elt F) S832x2048 .bf16) := (List.finRange 16).reverse.map (xpiece1 arg3 harg3 x0)
/-- The stores of the weights. -/
def wlist : List (View.Piece (Elt F) S2x256x2048 .bf16) := (List.finRange 64).reverse.map (wpiece arg4 harg4 arg5 harg5 x1 x2)

set_option maxHeartbeats 1000000 in
theorem xlist0_eq : (⟨Rect.unit ![0, 1920] S416x128.size inb_S832x2048_S416x128_0_1920, k0_pay162 (kernelRun.sl.r_34 c arg3 harg3 x0) (kernelRun.sl.r_35 c arg3 harg3 x0)⟩ ::
            ⟨Rect.unit ![0, 1792] S416x128.size inb_S832x2048_S416x128_0_1792, k0_pay63 (kernelRun.sl.r_32 c arg3 harg3 x0) (kernelRun.sl.r_33 c arg3 harg3 x0)⟩ :: kernelRun.sl.HS0_14 c arg3 harg3 x0)
    = xlist0 arg3 harg3 x0 := rfl

set_option maxHeartbeats 1000000 in
theorem xlist1_eq : (⟨Rect.unit ![416, 1920] S404x128.size inb_S832x2048_S404x128_416_1920, k0_pay163 (kernelRun.sl.r_69 c arg3 harg3 x0) (kernelRun.sl.r_70 c arg3 harg3 x0)⟩ ::
          ⟨Rect.unit ![416, 1792] S404x128.size inb_S832x2048_S404x128_416_1792, k0_pay126 (kernelRun.sl.r_67 c arg3 harg3 x0) (kernelRun.sl.r_68 c arg3 harg3 x0)⟩ :: kernelRun.sl.HS0_14_1 c arg3 harg3 x0)
    = xlist1 arg3 harg3 x0 := rfl

set_option maxHeartbeats 1000000 in
theorem wlist_eq : kernelRun.sl.HS1_64 c arg4 harg4 arg5 harg5 x1 x2 = wlist arg4 harg4 arg5 harg5 x1 x2 := rfl

variable (xt0 : TbBuf0 (F := F) c tbM0_0) (fs0 : arg8.view.ty.Contents (Elt F))

/-- The hidden values of the block of columns from `off` of the chunk from row `r0`, whose rows of x are `X`. -/
def hblk (off : ℕ) (hsl : S416x256.Slices ![0, off] S416x128) (r0 : BitVec 32) (X : Vec F S416x2048 .bf16) : FVec F S416x128 .f32 :=
  khid off hsl r0 (kernelRun.sl.r c i xt0) X (kernelRun.sl.v658_1 c arg4 harg4 arg5 harg5 arg9 x1 x2) (kernelRun.sl.v661_1 c arg4 harg4 arg5 harg5 arg9 x1 x2)

/-- The rows of x that chunk 0 reads back. -/
abbrev X0 : Vec F S416x2048 .bf16 := kernelRun.sl.v657_1 c i arg3 harg3 arg8 x0 xt0 fs0
/-- The rows of x that chunk 1 reads back. -/
abbrev X1 : Vec F S416x2048 .bf16 := kernelRun.sl.v657_2 c i arg3 harg3 arg8 x0 xt0 fs0

/-- Chunk 0's stores of codes. -/
def clist0 : List (View.Piece (Elt F) S1x820x256 .fp8e4m3) :=
  [⟨Rect.unit ![0, 0, 128] S1x416x128.size inb_S1x820x256_S1x416x128_0_0_128,
     shapeCast S1x416x128 (kch (hblk c i arg4 harg4 arg5 harg5 arg9 x1 x2 xt0 128 slices_S416x256_o0_128_S416x128 0#32 (X0 c i arg3 harg3 arg8 x0 xt0 fs0))) shapeCasts_S416x128_S1x416x128⟩,
   ⟨Rect.unit ![0, 0, 0] S1x416x128.size inb_S1x820x256_S1x416x128_0_0_0,
     shapeCast S1x416x128 (kch (hblk c i arg4 harg4 arg5 harg5 arg9 x1 x2 xt0 0 slices_S416x256_o0_0_S416x128 0#32 (X0 c i arg3 harg3 arg8 x0 xt0 fs0))) shapeCasts_S416x128_S1x416x128⟩]
/-- Chunk 1's stores of codes. -/
def clist1 : List (View.Piece (Elt F) S1x820x256 .fp8e4m3) :=
  [⟨Rect.unit ![0, 416, 128] S1x404x128.size inb_S1x820x256_S1x404x128_0_416_128,
     shapeCast S1x404x128 (extractStridedSlice S404x128 ![0, 0] (kch (hblk c i arg4 harg4 arg5 harg5 arg9 x1 x2 xt0 128 slices_S416x256_o0_128_S416x128 416#32 (X1 c i arg3 harg3 arg8 x0 xt0 fs0))) slices_S416x128_o0_0_S404x128) shapeCasts_S404x128_S1x404x128⟩,
   ⟨Rect.unit ![0, 416, 0] S1x404x128.size inb_S1x820x256_S1x404x128_0_416_0,
     shapeCast S1x404x128 (extractStridedSlice S404x128 ![0, 0] (kch (hblk c i arg4 harg4 arg5 harg5 arg9 x1 x2 xt0 0 slices_S416x256_o0_0_S416x128 416#32 (X1 c i arg3 harg3 arg8 x0 xt0 fs0))) slices_S416x128_o0_0_S404x128) shapeCasts_S404x128_S1x404x128⟩]
/-- Chunk 0's stores of scales. -/
def slist0 : List (View.Piece (Elt F) S1x1x820x2 .f32) :=
  [⟨Rect.unit ![0, 0, 0, 1] S1x1x416x1.size inb_S1x1x820x2_S1x1x416x1_0_0_0_1,
     shapeCast S1x1x416x1 (kscl (F := F) (kexh (hblk c i arg4 harg4 arg5 harg5 arg9 x1 x2 xt0 128 slices_S416x256_o0_128_S416x128 0#32 (X0 c i arg3 harg3 arg8 x0 xt0 fs0)))) shapeCasts_S416x1_S1x1x416x1⟩,
   ⟨Rect.unit ![0, 0, 0, 0] S1x1x416x1.size inb_S1x1x820x2_S1x1x416x1_0_0_0_0,
     shapeCast S1x1x416x1 (kscl (F := F) (kexh (hblk c i arg4 harg4 arg5 harg5 arg9 x1 x2 xt0 0 slices_S416x256_o0_0_S416x128 0#32 (X0 c i arg3 harg3 arg8 x0 xt0 fs0)))) shapeCasts_S416x1_S1x1x416x1⟩]
/-- Chunk 1's stores of scales. -/
def slist1 : List (View.Piece (Elt F) S1x1x820x2 .f32) :=
  [⟨Rect.unit ![0, 0, 416, 1] S1x1x404x1.size inb_S1x1x820x2_S1x1x404x1_0_0_416_1,
     shapeCast S1x1x404x1 (extractStridedSlice S404x1 ![0, 0] (kscl (F := F) (kexh (hblk c i arg4 harg4 arg5 harg5 arg9 x1 x2 xt0 128 slices_S416x256_o0_128_S416x128 416#32 (X1 c i arg3 harg3 arg8 x0 xt0 fs0)))) slices_S416x1_o0_0_S404x1) shapeCasts_S404x1_S1x1x404x1⟩,
   ⟨Rect.unit ![0, 0, 416, 0] S1x1x404x1.size inb_S1x1x820x2_S1x1x404x1_0_0_416_0,
     shapeCast S1x1x404x1 (extractStridedSlice S404x1 ![0, 0] (kscl (F := F) (kexh (hblk c i arg4 harg4 arg5 harg5 arg9 x1 x2 xt0 0 slices_S416x256_o0_0_S416x128 416#32 (X1 c i arg3 harg3 arg8 x0 xt0 fs0)))) slices_S416x1_o0_0_S404x1) shapeCasts_S404x1_S1x1x404x1⟩]

set_option maxHeartbeats 1000000 in
theorem clist0_eq : (⟨Rect.unit ![0, 0, 128] S1x416x128.size inb_S1x820x256_S1x416x128_0_0_128,
      k0_pay240 (kernelRun.sl.r_156 c i arg3 harg3 arg4 harg4 arg5 harg5 arg8 arg9 x0 x1 x2 xt0 fs0) kernelRun.sl.cst_679⟩ ::
        kernelRun.sl.H3_1 c i arg3 harg3 arg4 harg4 arg5 harg5 arg8 arg9 x0 x1 x2 xt0 fs0)
    = clist0 c i arg3 harg3 arg4 harg4 arg5 harg5 arg8 arg9 x0 x1 x2 xt0 fs0 := rfl

set_option maxHeartbeats 1000000 in
theorem clist1_eq : (⟨Rect.unit ![0, 416, 128] S1x404x128.size inb_S1x820x256_S1x404x128_0_416_128,
      k0_pay244 (kernelRun.sl.r_163 c i arg3 harg3 arg4 harg4 arg5 harg5 arg8 arg9 x0 x1 x2 xt0 fs0) (kernelRun.sl.r_165 c i arg3 harg3 arg4 harg4 arg5 harg5 arg8 arg9 x0 x1 x2 xt0 fs0)⟩ ::
        kernelRun.sl.H3_1_1 c i arg3 harg3 arg4 harg4 arg5 harg5 arg8 arg9 x0 x1 x2 xt0 fs0)
    = clist1 c i arg3 harg3 arg4 harg4 arg5 harg5 arg8 arg9 x0 x1 x2 xt0 fs0 := rfl

set_option maxHeartbeats 1000000 in
theorem slist0_eq : (⟨Rect.unit ![0, 0, 0, 1] S1x1x416x1.size inb_S1x1x820x2_S1x1x416x1_0_0_0_1,
      k0_pay241 (kernelRun.sl.r_155 c i arg3 harg3 arg4 harg4 arg5 harg5 arg8 arg9 x0 x1 x2 xt0 fs0)⟩ ::
        kernelRun.sl.H4_1 c i arg3 harg3 arg4 harg4 arg5 harg5 arg8 arg9 x0 x1 x2 xt0 fs0)
    = slist0 c i arg3 harg3 arg4 harg4 arg5 harg5 arg8 arg9 x0 x1 x2 xt0 fs0 := rfl

set_option maxHeartbeats 1000000 in
theorem slist1_eq : (⟨Rect.unit ![0, 0, 416, 1] S1x1x404x1.size inb_S1x1x820x2_S1x1x404x1_0_0_416_1,
      k0_pay245 (kernelRun.sl.r_164 c i arg3 harg3 arg4 harg4 arg5 harg5 arg8 arg9 x0 x1 x2 xt0 fs0)⟩ ::
        kernelRun.sl.H4_1_1 c i arg3 harg3 arg4 harg4 arg5 harg5 arg8 arg9 x0 x1 x2 xt0 fs0)
    = slist1 c i arg3 harg3 arg4 harg4 arg5 harg5 arg8 arg9 x0 x1 x2 xt0 fs0 := rfl

end

end Cert.KernelIdeal.Hand
end
-- ==== Proof.Values.lean ====
/- The stores of one run of the kernel's body read entry by entry at the extended reals. -/
module

public import proofs.«01_k».proof.Proof.Lists

@[expose] public section

set_option maxRecDepth 16384

noncomputable section

namespace Cert.KernelIdeal.Hand

open Cert.KernelIdeal.Gen Cert.Spec
open Idealize.ShloMosaic Idealize.ShloMosaic.TcCoe

theorem readAt_whole {s : Shape} {e : EltTy} {sp : Space} {m : Memref sig .tc sp s e} (h : m.IsWhole) (X : s.Idx → Elt Ideal e) (r : Rect s)
    (x : r.shape.Idx) (y : s.Idx) (hx : ∀ a, (y a).val = r.off a + r.stride a * (x a).val) :
    View.readAt (Elt Ideal) m.view r.toLoadRect (h.unread X) x = X y :=
  (congrFun (h.read_unread X) _).trans (congrArg X (Rect.emb_eq_of_coords r x y hx))

theorem mem_of_coords {s : Shape} (r : Rect s) (x : r.shape.Idx) (y : s.Idx) (hx : ∀ a, (y a).val = r.off a + r.stride a * (x a).val) : y ∈ r.set := by
  rw [← Rect.map_emb_univ, ← Rect.emb_eq_of_coords r x y hx]
  exact Finset.mem_map_of_mem _ (Finset.mem_univ x)

/-! ## The quantised rows of x -/

theorem xqE_at (f : Fin 2048 → EReal) (k : Fin 16) (l : Fin 128) (h : 128 * k.val + l.val < 2048) :
    xqE f ⟨128 * k.val + l.val, h⟩ = cd (fun j => f ⟨128 * k.val + j.val, by have := k.isLt; have := j.isLt; omega⟩) l
      * sc (fun j => f ⟨128 * k.val + j.val, by have := k.isLt; have := j.isLt; omega⟩) := by
  have e : ∀ j : Fin 128, lane (n := 16) ⟨128 * k.val + l.val, h⟩ j = ⟨128 * k.val + j.val, by have := k.isLt; have := j.isLt; omega⟩ := fun j => by
    apply Fin.ext; have := l.isLt; show (128 * k.val + l.val) / 128 * 128 + j.val = 128 * k.val + j.val; omega
  have e2 : (⟨(128 * k.val + l.val) % 128, Nat.mod_lt _ (by decide)⟩ : Fin 128) = l := by
    apply Fin.ext; have := l.isLt; show (128 * k.val + l.val) % 128 = l.val; omega
  unfold xqE
  simp only [e, e2]

theorem kxq_apply {n : ℕ} (hc : (⟨3, ![1, n, 128]⟩ : Shape).ShapeCasts (SM n 128)) (hr : (SM n 128).Reduces [1] (SV n)) (hs : (SV n).ShapeCasts (SM n 1))
    (hr2 : (SM n 256).Reduces [1] (SV n)) (hi : (SM n 256).Iotas .tc 32 [1]) (hb2 : (SM n 1).Broadcasts (SM n 256))
    (hb : (SM n 1).Broadcasts (SM n 128)) (hid : (SM n 128).ShapeCasts (SM n 128)) (v : Vec Ideal ⟨3, ![1, n, 128]⟩ .bf16) (i : Fin n) (l : Fin 128) :
    kxq (F := Ideal) hc hr hs hr2 hi hb2 hb hid v (ValueIdx.ix2 i l)
      = cd (fun j => v (ValueIdx.ix3 0 i j)) l * sc (fun j => v (ValueIdx.ix3 0 i j)) := by
  unfold kxq
  rw [shapeCast_apply _ hid (ValueIdx.ix2 i l) (ValueIdx.ix2 i l) rfl]
  have e : ∀ j : Fin 128, (extf .f32 (shapeCast (SM n 128) v hc) bitsLt_bf16_f32 : FVec Ideal (SM n 128) .f32) (ValueIdx.ix2 i j) = v (ValueIdx.ix3 0 i j) := fun j =>
    shapeCast_apply v hc (ValueIdx.ix2 i j) (ValueIdx.ix3 0 i j) (by
      rw [Shape.rowMajor_val_three, Shape.rowMajor_val_two]; show (0 * n + i.val) * 128 + j.val = i.val * 128 + j.val; omega)
  show kcode hb _ _ (ValueIdx.ix2 i l) * broadcastTo (SM n 128) (kscl (F := Ideal) _) hb (ValueIdx.ix2 i l) = _
  rw [rowCode, row_apply, rowScale]
  simp only [e]

/-- What the scratch of quantised rows holds. -/
def G8 (x0 : Vec Ideal S1x820x2048 .bf16) (y : S832x2048.Idx) : EReal :=
  if h : (y 0).val < 820 then xqE (fun k => x0 (ValueIdx.ix3 0 ⟨(y 0).val, h⟩ k)) (y 1) else 0

theorem G8_ix (x0 : Vec Ideal S1x820x2048 .bf16) (r : Fin 832) (k : Fin 2048) (h : r.val < 820) :
    G8 x0 (ValueIdx.ix2 r k) = xqE (fun k => x0 (ValueIdx.ix3 0 ⟨r.val, h⟩ k)) k := dif_pos h

section
variable (c : Dev nD) (i : grid0.Coords) (arg3 : Memref sig .tc .vmem S1x820x2048 .bf16) (harg3 : arg3.IsWhole) (arg4 : Memref sig .tc .vmem S1x2x256x2048 .fp8e4m3) (harg4 : arg4.IsWhole) (arg5 : Memref sig .tc .smem S1x1x1x64 .f32) (harg5 : arg5.IsWhole)
    (arg8 : Memref sig .tc .vmem S832x2048 .bf16) (arg9 : Memref sig .tc .vmem S2x256x2048 .bf16)
    (x0 : Vec Ideal S1x820x2048 .bf16) (x1 : Vec Ideal S1x2x256x2048 .fp8e4m3) (x2 : Vec Ideal S1x1x1x64 .f32)

theorem xpiece0_ok (k : Fin 16) (x : (xpiece0 (F := Ideal) arg3 harg3 x0 k).1.shape.Idx) :
    (xpiece0 arg3 harg3 x0 k).2 x = G8 x0 ((xpiece0 arg3 harg3 x0 k).1.emb x) := by
  obtain ⟨r, l, rfl⟩ : ∃ (r : Fin 416) (l : Fin 128), x = ValueIdx.ix2 r l := ⟨_, _, ValueIdx.eq_ix2 x⟩
  have hk := k.isLt; have hl := l.isLt; have hr := r.isLt
  have he : (xpiece0 (F := Ideal) arg3 harg3 x0 k).1.emb (ValueIdx.ix2 r l) = ValueIdx.ix2 (⟨r.val, by omega⟩ : Fin 832) (⟨128 * k.val + l.val, by omega⟩ : Fin 2048) :=
    Rect.emb_eq_of_coords _ _ _ fun a => match a with
      | ⟨0, _⟩ => by show r.val = 0 + 1 * r.val; omega
      | ⟨1, _⟩ => by show 128 * k.val + l.val = 128 * k.val + 1 * l.val; omega
  rw [he, G8_ix x0 _ _ (by show r.val < 820; omega), xqE_at]
  show kxq _ _ _ _ _ _ _ _ _ (ValueIdx.ix2 r l) = _
  rw [kxq_apply]
  have e : ∀ j : Fin 128, View.readAt (Elt Ideal) arg3.view (Rect.unit (s := S1x820x2048) ![0, 0, 128 * k.val] S1x416x128.size (fun a => by have := k.isLt; fin_cases a <;> simp <;> omega)).toLoadRect (harg3.unread x0) (ValueIdx.ix3 0 r j)
      = x0 (ValueIdx.ix3 0 ⟨r.val, by omega⟩ ⟨128 * k.val + j.val, by have := j.isLt; omega⟩) := fun j => by
    exact readAt_whole harg3 x0 _ _ _ fun a => match a with
      | ⟨0, _⟩ => rfl
      | ⟨1, _⟩ => by show r.val = 0 + 1 * r.val; omega
      | ⟨2, _⟩ => by show 128 * k.val + j.val = 128 * k.val + 1 * j.val; omega
  simp only [e]

theorem xpiece1_ok (k : Fin 16) (x : (xpiece1 (F := Ideal) arg3 harg3 x0 k).1.shape.Idx) :
    (xpiece1 arg3 harg3 x0 k).2 x = G8 x0 ((xpiece1 arg3 harg3 x0 k).1.emb x) := by
  obtain ⟨r, l, rfl⟩ : ∃ (r : Fin 404) (l : Fin 128), x = ValueIdx.ix2 r l := ⟨_, _, ValueIdx.eq_ix2 x⟩
  have hk := k.isLt; have hl := l.isLt; have hr := r.isLt
  have he : (xpiece1 (F := Ideal) arg3 harg3 x0 k).1.emb (ValueIdx.ix2 r l) = ValueIdx.ix2 (⟨416 + r.val, by omega⟩ : Fin 832) (⟨128 * k.val + l.val, by omega⟩ : Fin 2048) :=
    Rect.emb_eq_of_coords _ _ _ fun a => match a with
      | ⟨0, _⟩ => by show 416 + r.val = 416 + 1 * r.val; omega
      | ⟨1, _⟩ => by show 128 * k.val + l.val = 128 * k.val + 1 * l.val; omega
  rw [he, G8_ix x0 _ _ (by show 416 + r.val < 820; omega), xqE_at]
  show kxq _ _ _ _ _ _ _ _ _ (ValueIdx.ix2 r l) = _
  rw [kxq_apply]
  have e : ∀ j : Fin 128, View.readAt (Elt Ideal) arg3.view (Rect.unit (s := S1x820x2048) ![0, 416, 128 * k.val] S1x404x128.size (fun a => by have := k.isLt; fin_cases a <;> simp <;> omega)).toLoadRect (harg3.unread x0) (ValueIdx.ix3 0 r j)
      = x0 (ValueIdx.ix3 0 ⟨416 + r.val, by omega⟩ ⟨128 * k.val + j.val, by have := j.isLt; omega⟩) := fun j => by
    exact readAt_whole harg3 x0 _ _ _ fun a => match a with
      | ⟨0, _⟩ => rfl
      | ⟨1, _⟩ => by show 416 + r.val = 416 + 1 * r.val; omega
      | ⟨2, _⟩ => by show 128 * k.val + j.val = 128 * k.val + 1 * j.val; omega
  simp only [e]

theorem xlist0_ok : ∀ p ∈ xlist0 (F := Ideal) arg3 harg3 x0, ∀ x : p.1.shape.Idx, p.2 x = G8 x0 (p.1.emb x) := by
  intro p hp
  obtain ⟨k, -, rfl⟩ := List.mem_map.mp hp
  exact xpiece0_ok arg3 harg3 x0 k
theorem xlist1_ok : ∀ p ∈ xlist1 (F := Ideal) arg3 harg3 x0, ∀ x : p.1.shape.Idx, p.2 x = G8 x0 (p.1.emb x) := by
  intro p hp
  obtain ⟨k, -, rfl⟩ := List.mem_map.mp hp
  exact xpiece1_ok arg3 harg3 x0 k

theorem xlist0_cover (r : Fin 832) (k : Fin 2048) (h : r.val < 416) : ∃ p ∈ xlist0 (F := Ideal) arg3 harg3 x0, ValueIdx.ix2 r k ∈ p.1.set := by
  have hk := k.isLt
  refine ⟨xpiece0 arg3 harg3 x0 ⟨k.val / 128, by omega⟩, List.mem_map.mpr ⟨_, by simp, rfl⟩, ?_⟩
  exact mem_of_coords _ (ValueIdx.ix2 (⟨r.val, h⟩ : Fin 416) (⟨k.val % 128, by omega⟩ : Fin 128)) _ fun a => match a with
      | ⟨0, _⟩ => by show r.val = 0 + 1 * r.val; omega
      | ⟨1, _⟩ => by show k.val = 128 * (k.val / 128) + 1 * (k.val % 128); omega
theorem xlist1_cover (r : Fin 832) (k : Fin 2048) (h : 416 ≤ r.val) (h2 : r.val < 820) : ∃ p ∈ xlist1 (F := Ideal) arg3 harg3 x0, ValueIdx.ix2 r k ∈ p.1.set := by
  have hk := k.isLt
  refine ⟨xpiece1 arg3 harg3 x0 ⟨k.val / 128, by omega⟩, List.mem_map.mpr ⟨_, by simp, rfl⟩, ?_⟩
  exact mem_of_coords _ (ValueIdx.ix2 (⟨r.val - 416, by omega⟩ : Fin 404) (⟨k.val % 128, by omega⟩ : Fin 128)) _ fun a => match a with
      | ⟨0, _⟩ => by show r.val = 416 + 1 * (r.val - 416); omega
      | ⟨1, _⟩ => by show k.val = 128 * (k.val / 128) + 1 * (k.val % 128); omega
theorem xlist1_miss (r : Fin 832) (k : Fin 2048) (h : r.val < 416) : ∀ p ∈ xlist1 (F := Ideal) arg3 harg3 x0, ValueIdx.ix2 r k ∉ p.1.set := by
  intro p hp
  obtain ⟨q, -, rfl⟩ := List.mem_map.mp hp
  exact Rect.not_mem_set_of_axis _ _ (0 : Fin 2) 416 404 rfl rfl rfl (.inl h)

/-! ## The scaled weights -/

/-- A weight times its block's scale. -/
def wE (p : Fin 2) (o : Fin 256) (k : Fin 2048) : EReal :=
  x1 (ValueIdx.ix4 0 p o k) * x2 (ValueIdx.ix4 0 0 0 ⟨(p.val * 2 + o.val / 128) * 16 + k.val / 128, by have := p.isLt; have := o.isLt; have := k.isLt; omega⟩)

theorem kwt_apply (s : EReal) (v : Vec Ideal S1x1x128x128 .fp8e4m3) (a b : Fin 128) :
    kwt (F := Ideal) s v (ValueIdx.ix3 0 a b) = v (ValueIdx.ix4 0 0 a b) * s := by
  unfold kwt
  rw [shapeCast_apply _ shapeCasts_S128x128_S1x128x128 (ValueIdx.ix3 0 a b) (ValueIdx.ix2 a b) (by
    rw [Shape.rowMajor_val_three, Shape.rowMajor_val_two]; show a.val * 128 + b.val = (0 * 128 + a.val) * 128 + b.val; omega)]
  refine congrArg (fun u : EReal => u * s) (shapeCast_apply v shapeCasts_S1x1x128x128_S128x128 (ValueIdx.ix2 a b) (ValueIdx.ix4 0 0 a b) (by
    rw [Shape.rowMajor_val_four, Shape.rowMajor_val_two]; show ((0 * 1 + 0) * 128 + a.val) * 128 + b.val = a.val * 128 + b.val; omega))

theorem wpiece_ok (q : Fin 64) (x : (wpiece (F := Ideal) arg4 harg4 arg5 harg5 x1 x2 q).1.shape.Idx) :
    (wpiece arg4 harg4 arg5 harg5 x1 x2 q).2 x = (fun y : S2x256x2048.Idx => wE x1 x2 (y 0) (y 1) (y 2)) ((wpiece arg4 harg4 arg5 harg5 x1 x2 q).1.emb x) := by
  obtain ⟨z, a, b, rfl⟩ : ∃ (z : Fin 1) (a : Fin 128) (b : Fin 128), x = ValueIdx.ix3 z a b := ⟨_, _, _, ValueIdx.eq_ix3 x⟩
  obtain rfl : z = 0 := Subsingleton.elim _ _
  have hq := q.isLt; have ha := a.isLt; have hb := b.isLt
  have he : (wpiece (F := Ideal) arg4 harg4 arg5 harg5 x1 x2 q).1.emb (ValueIdx.ix3 0 a b) = ValueIdx.ix3 (⟨q.val / 32, by omega⟩ : Fin 2)
      (⟨128 * (q.val / 16 % 2) + a.val, by omega⟩ : Fin 256) (⟨128 * (q.val % 16) + b.val, by omega⟩ : Fin 2048) :=
    Rect.emb_eq_of_coords _ _ _ fun ax => match ax with
      | ⟨0, _⟩ => by show q.val / 32 = q.val / 32 + 1 * 0; omega
      | ⟨1, _⟩ => by show 128 * (q.val / 16 % 2) + a.val = 128 * (q.val / 16 % 2) + 1 * a.val; omega
      | ⟨2, _⟩ => by show 128 * (q.val % 16) + b.val = 128 * (q.val % 16) + 1 * b.val; omega
  rw [he]
  refine (kwt_apply _ _ a b).trans ?_
  refine congrArg₂ (fun u v : EReal => u * v) ?_ ?_
  · exact readAt_whole harg4 x1 _ _ _ fun ax => match ax with
      | ⟨0, _⟩ => rfl
      | ⟨1, _⟩ => by show q.val / 32 = q.val / 32 + 1 * 0; omega
      | ⟨2, _⟩ => by show 128 * (q.val / 16 % 2) + a.val = 128 * (q.val / 16 % 2) + 1 * a.val; omega
      | ⟨3, _⟩ => by show 128 * (q.val % 16) + b.val = 128 * (q.val % 16) + 1 * b.val; omega
  · exact readAt_whole harg5 x2 _ _ _ fun ax => match ax with
      | ⟨0, _⟩ => rfl
      | ⟨1, _⟩ => rfl
      | ⟨2, _⟩ => rfl
      | ⟨3, _⟩ => by
        show (q.val / 32 * 2 + (128 * (q.val / 16 % 2) + a.val) / 128) * 16 + (128 * (q.val % 16) + b.val) / 128 = q.val + 1 * 0
        omega

theorem wlist_cover (p : Fin 2) (o : Fin 256) (k : Fin 2048) : ∃ w ∈ wlist (F := Ideal) arg4 harg4 arg5 harg5 x1 x2, ValueIdx.ix3 p o k ∈ w.1.set := by
  have hp := p.isLt; have ho := o.isLt; have hk := k.isLt
  refine ⟨wpiece arg4 harg4 arg5 harg5 x1 x2 ⟨(p.val * 2 + o.val / 128) * 16 + k.val / 128, by omega⟩, List.mem_map.mpr ⟨_, by simp, rfl⟩, ?_⟩
  exact mem_of_coords _ (ValueIdx.ix3 (0 : Fin 1) (⟨o.val % 128, by omega⟩ : Fin 128) (⟨k.val % 128, by omega⟩ : Fin 128)) _ fun a => match a with
      | ⟨0, _⟩ => by show p.val = ((p.val * 2 + o.val / 128) * 16 + k.val / 128) / 32 + 1 * 0; omega
      | ⟨1, _⟩ => by show o.val = 128 * (((p.val * 2 + o.val / 128) * 16 + k.val / 128) / 16 % 2) + 1 * (o.val % 128); omega
      | ⟨2, _⟩ => by show k.val = 128 * (((p.val * 2 + o.val / 128) * 16 + k.val / 128) % 16) + 1 * (k.val % 128); omega

/-- A weight read back from the scratch. -/
theorem wread (p : Fin 2) (o : Fin 256) (k : Fin 2048) :
    arg9.view.read (Elt Ideal) (arg9.view.writes (Elt Ideal) arg9.view.junk (wlist arg4 harg4 arg5 harg5 x1 x2)) (ValueIdx.ix3 p o k) = wE x1 x2 p o k :=
  View.read_writes_apply_of_pieces _ _ (fun y : S2x256x2048.Idx => wE x1 x2 (y 0) (y 1) (y 2)) _ (fun w hw => by
    obtain ⟨q, -, rfl⟩ := List.mem_map.mp hw
    exact wpiece_ok arg4 harg4 arg5 harg5 x1 x2 q) _ (wlist_cover arg4 harg4 arg5 harg5 x1 x2 p o k)

theorem w0_apply (o : Fin 256) (k : Fin 2048) : kernelRun.sl.v658_1 (F := Ideal) c arg4 harg4 arg5 harg5 arg9 x1 x2 (ValueIdx.ix3 0 o k) = wE x1 x2 0 o k := by
  rw [← wread arg4 harg4 arg5 harg5 arg9 x1 x2, ← wlist_eq c]
  refine congrArg (arg9.view.read (Elt Ideal) _) (Rect.emb_eq_of_coords _ _ _ fun a => match a with
      | ⟨0, _⟩ => rfl
      | ⟨1, _⟩ => by show o.val = 0 + 1 * o.val; omega
      | ⟨2, _⟩ => by show k.val = 0 + 1 * k.val; omega)

theorem w1_apply (o : Fin 256) (k : Fin 2048) : kernelRun.sl.v661_1 (F := Ideal) c arg4 harg4 arg5 harg5 arg9 x1 x2 (ValueIdx.ix3 0 o k) = wE x1 x2 1 o k := by
  rw [← wread arg4 harg4 arg5 harg5 arg9 x1 x2, ← wlist_eq c]
  refine congrArg (arg9.view.read (Elt Ideal) _) (Rect.emb_eq_of_coords _ _ _ fun a => match a with
      | ⟨0, _⟩ => rfl
      | ⟨1, _⟩ => by show o.val = 0 + 1 * o.val; omega
      | ⟨2, _⟩ => by show k.val = 0 + 1 * k.val; omega)

/-! ## The hidden values -/

/-- A row's hidden value at one grid point. -/
def hE (gs : BitVec 32) (r : Fin 820) (o : Fin 256) : EReal :=
  hidE gs r.val (xqE fun k => x0 (ValueIdx.ix3 0 r k)) (wE x1 x2 0 o) (wE x1 x2 1 o)

theorem kdot_apply (X : Vec Ideal S416x2048 .bf16) (w : Vec Ideal S1x256x2048 .bf16) (r : Fin 416) (o : Fin 256) :
    kdot (F := Ideal) X w (ValueIdx.ix2 r o) = ∑ k : Fin 2048, X (ValueIdx.ix2 r k) * w (ValueIdx.ix3 0 o k) := by
  unfold kdot
  refine (Ideal.matmul_transposedRhs_apply (M := 416) (K := 2048) (N := 256) none X (shapeCast S256x2048 w shapeCasts_S1x256x2048_S256x2048) _ r o).trans ?_
  show Ideal.ofBits .f32 0x00000000#32 + _ = _
  rw [Ideal.ofBits_zero_f32, zero_add]
  refine Finset.sum_congr rfl fun k _ => congrArg (X (ValueIdx.ix2 r k) * ·) ?_
  exact shapeCast_apply _ shapeCasts_S1x256x2048_S256x2048 _ (ValueIdx.ix3 0 o k) (by
    rw [Shape.rowMajor_val_three, Shape.rowMajor_val_two]; show (0 * 256 + o.val) * 2048 + k.val = o.val * 2048 + k.val; omega)

theorem row_word0 : ∀ r : Fin 416, (0#32 + BitVec.ofNat 32 (0 * 416 + r.val)).toInt = ((0 + r.val : ℕ) : ℤ) := by decide +kernel
theorem row_word1 : ∀ r : Fin 416, (416#32 + BitVec.ofNat 32 (0 * 416 + r.val)).toInt = ((416 + r.val : ℕ) : ℤ) := by decide +kernel

theorem ofBits_one : Ideal.ofBits .f32 0x3F800000#32 = 1 := by
  have := ofBits_shift 127 (by norm_num) (by norm_num)
  rw [show (BitVec.ofNat 32 127 <<< 23) = 0x3F800000#32 from by decide] at this
  rw [this]; norm_num [two]

theorem select_slt (a b : BitVec 32) (x y : EReal) : Scalar.select (IntOp.cmpi .slt a b) x y = if a.toInt < b.toInt then x else y := by
  unfold IntOp.cmpi Scalar.select
  by_cases h : a.toInt < b.toInt <;> simp [BitVec.slt, h]

theorem khid_apply (off : ℕ) (hoff : off + 128 ≤ 256) (hsl : S416x256.Slices ![0, off] S416x128) (r0 gs : BitVec 32) (r0n : ℕ)
    (hr0 : ∀ r : Fin 416, (r0 + BitVec.ofNat 32 (0 * 416 + r.val)).toInt = ((r0n + r.val : ℕ) : ℤ))
    (X : Vec Ideal S416x2048 .bf16) (wg wu : Vec Ideal S1x256x2048 .bf16) (r : Fin 416) (l : Fin 128) :
    khid (F := Ideal) off hsl r0 gs X wg wu (ValueIdx.ix2 r l)
      = hidE gs (r0n + r.val) (fun k => X (ValueIdx.ix2 r k)) (fun k => wg (ValueIdx.ix3 0 ⟨off + l.val, by have := l.isLt; omega⟩ k))
          (fun k => wu (ValueIdx.ix3 0 ⟨off + l.val, by have := l.isLt; omega⟩ k)) := by
  have hs : ∀ w : Vec Ideal S1x256x2048 .bf16, extractStridedSlice S416x128 ![0, off] (kdot (F := Ideal) X w) hsl (ValueIdx.ix2 r l)
      = ∑ k : Fin 2048, X (ValueIdx.ix2 r k) * w (ValueIdx.ix3 0 ⟨off + l.val, by have := l.isLt; omega⟩ k) := fun w => by
    rw [extractStridedSlice_apply _ _ hsl (ValueIdx.ix2 r l) (ValueIdx.ix2 r ⟨off + l.val, by have := l.isLt; omega⟩) (fun a => match a with
      | ⟨0, _⟩ => by show r.val = 0 + r.val; omega
      | ⟨1, _⟩ => rfl), kdot_apply]
  unfold khid hidE
  show Scalar.select (broadcastTo S416x128 _ broadcasts_S416x1_S416x128 (ValueIdx.ix2 r l))
    ((extractStridedSlice S416x128 ![0, off] (kdot (F := Ideal) X wg) hsl (ValueIdx.ix2 r l)
      * Ideal.div (Ideal.ofBits .f32 0x3F800000#32) (Ideal.ofBits .f32 0x3F800000#32
        + Ideal.exp (Ideal.ofBits .f32 0x00000000#32 - extractStridedSlice S416x128 ![0, off] (kdot (F := Ideal) X wg) hsl (ValueIdx.ix2 r l))))
      * extractStridedSlice S416x128 ![0, off] (kdot (F := Ideal) X wu) hsl (ValueIdx.ix2 r l)) (Ideal.ofBits .f32 0x00000000#32) = _
  rw [row_apply, shapeCast_apply _ shapeCasts_S416x1_S416x1 (ValueIdx.ix2 r 0) (ValueIdx.ix2 r 0) rfl, hs, hs, ofBits_one, Ideal.ofBits_zero_f32]
  show Scalar.select (IntOp.cmpi .slt (r0 + BitVec.ofNat 32 (0 * 416 + r.val)) gs) _ _ = _
  rw [select_slt, hr0, zero_sub]
  rfl

end

end Cert.KernelIdeal.Hand
end
-- ==== Proof.Reads.lean ====
/- What one run of the kernel's body leaves in the quantised rows' scratch and in its two output blocks. -/
module

public import proofs.«01_k».proof.Proof.Values

@[expose] public section

set_option maxRecDepth 16384

noncomputable section

namespace Cert.KernelIdeal.Hand

open Cert.KernelIdeal.Gen Cert.Spec
open Idealize.ShloMosaic Idealize.ShloMosaic.TcCoe

/-! ## The body's tests of the group size -/

theorem test_word (P : Prop) [Decidable P] : (Scalar.cmpi .ne (Scalar.extui (BitVec.ofBool (decide P)) : BitVec 32) 0#32 = 1#1) ↔ P := by
  by_cases h : P <;> simp [h, Scalar.cmpi, Scalar.extui, IntOp.cmpi]

theorem cond4_iff (g : BitVec 32) : k0_cond4 g = 1#1 ↔ 0 < g.toInt := by
  refine Iff.trans ?_ (test_word (0 < g.toInt))
  simp [k0_cond4, Scalar.cmpi, IntOp.cmpi, BitVec.slt]
theorem cond5_iff (g : BitVec 32) : k0_cond5 g = 1#1 ↔ g.toInt ≤ 0 := by
  refine Iff.trans ?_ (test_word (g.toInt ≤ 0))
  simp [k0_cond5, Scalar.cmpi, IntOp.cmpi, BitVec.sle]
theorem cond6_iff (g : BitVec 32) : k0_cond6 g = 1#1 ↔ 416 < g.toInt := by
  refine Iff.trans ?_ (test_word (416 < g.toInt))
  simp [k0_cond6, Scalar.cmpi, IntOp.cmpi, BitVec.slt]
theorem cond7_iff (g : BitVec 32) : k0_cond7 g = 1#1 ↔ g.toInt ≤ 416 := by
  refine Iff.trans ?_ (test_word (g.toInt ≤ 416))
  simp [k0_cond7, Scalar.cmpi, IntOp.cmpi, BitVec.sle]

/-! ## A row of zeros -/

theorem ofBits_448 : 0 ≤ Ideal.ofBits .f32 0x43E00000#32 := by
  show (0 : EReal) ≤ Ideal.ieee 8 23 0x43E00000#32
  unfold Ideal.ieee
  simp only [Nat.reduceAdd, (by decide : (BitVec.extractLsb' 23 8 0x43E00000#32).toNat = 135), (by decide : (BitVec.extractLsb' 31 1 0x43E00000#32 == 1#1) = false)]
  rw [if_neg (by norm_num), if_neg (by norm_num)]
  simp only [Bool.false_eq_true, if_false]
  exact EReal.coe_nonneg.mpr (by positivity)

theorem ofBits_neg448 : Ideal.ofBits .f32 0xC3E00000#32 ≤ 0 := by
  show Ideal.ieee 8 23 0xC3E00000#32 ≤ (0 : EReal)
  unfold Ideal.ieee
  simp only [Nat.reduceAdd, (by decide : (BitVec.extractLsb' 23 8 0xC3E00000#32).toNat = 135), (by decide : (BitVec.extractLsb' 31 1 0xC3E00000#32 == 1#1) = true)]
  rw [if_neg (by norm_num), if_neg (by norm_num)]
  simp only [if_true]
  refine EReal.coe_nonpos.mpr ?_
  rw [neg_one_mul, neg_mul]
  exact neg_nonpos.mpr (by positivity)

theorem sc_zero : sc (fun _ => 0) = 1 := by
  have h0 : amax (fun _ => 0) = 0 := by
    unfold amax
    apply le_antisymm
    · exact Finset.sup_le (f := fun _ => max (0 : EReal) (-0)) (s := Finset.univ) fun _ _ => by simp
    · refine le_trans (by simp) (Finset.le_sup (f := fun _ : Fin 128 => max (0 : EReal) (-0)) (Finset.mem_univ 0))
  unfold sc
  rw [h0, zero_mul]
  exact scale_small 0 (by unfold two; exact_mod_cast (by positivity : (0 : ℝ) < 2 ^ (-126 : ℤ)))

theorem cd_zero (k : Fin 128) : cd (fun _ => 0) k = 0 := by
  unfold cd
  rw [sc_zero]
  unfold code
  rw [show Ideal.div 0 1 = 0 from by simp [Ideal.div]]
  rw [max_eq_right ofBits_neg448, min_eq_right ofBits_448]

/-! ## The scratch of quantised rows -/

/-- The scratch holds the quantised rows of the block of x, as far as the group's rows go. -/
def Q (x0 : Vec Ideal S1x820x2048 .bf16) (g : BitVec 32) (d : S832x2048.Idx → EReal) : Prop :=
  ∀ (r : Fin 820) (k : Fin 2048), (r.val : ℤ) < g.toInt → d (ValueIdx.ix2 ⟨r.val, by have := r.isLt; omega⟩ k) = xqE (fun k => x0 (ValueIdx.ix3 0 r k)) k

section
variable (c : Dev nD) (i : grid0.Coords) (arg3 : Memref sig .tc .vmem S1x820x2048 .bf16) (harg3 : arg3.IsWhole) (arg4 : Memref sig .tc .vmem S1x2x256x2048 .fp8e4m3) (harg4 : arg4.IsWhole) (arg5 : Memref sig .tc .smem S1x1x1x64 .f32) (harg5 : arg5.IsWhole)
    (arg6 : Memref sig .tc .vmem S1x820x256 .fp8e4m3) (arg7 : Memref sig .tc .vmem S1x1x820x2 .f32)
    (arg8 : Memref sig .tc .vmem S832x2048 .bf16) (arg9 : Memref sig .tc .vmem S2x256x2048 .bf16)
    (x0 : Vec Ideal S1x820x2048 .bf16) (x1 : Vec Ideal S1x2x256x2048 .fp8e4m3) (x2 : Vec Ideal S1x1x1x64 .f32)
    (xt0 : TbBuf0 (F := Ideal) c tbM0_0) (fs0 : arg8.view.ty.Contents (Elt Ideal)) (g : BitVec 32)

theorem q_none (hg : g.toInt ≤ 0) (d : S832x2048.Idx → EReal) : Q x0 g d := fun r k h => by
  have : (0 : ℤ) ≤ r.val := by positivity
  omega

theorem q_write0 (hg : g.toInt ≤ 416) : Q x0 g (arg8.view.read (Elt Ideal) (arg8.view.writes (Elt Ideal) fs0 (xlist0 arg3 harg3 x0))) := fun r k h =>
  (View.read_writes_apply_of_pieces _ _ (G8 x0) _ (xlist0_ok arg3 harg3 x0) _ (xlist0_cover arg3 harg3 x0 _ k (by show r.val < 416; omega))).trans
    (G8_ix x0 _ k r.isLt)

theorem q_write1 : Q x0 g (arg8.view.read (Elt Ideal) (arg8.view.writes (Elt Ideal) (arg8.view.writes (Elt Ideal) fs0 (xlist0 arg3 harg3 x0)) (xlist1 arg3 harg3 x0))) := fun r k h => by
  by_cases hr : r.val < 416
  · refine (View.read_writes_apply_of_forall_not_mem _ _ _ _ (xlist1_miss arg3 harg3 x0 _ k hr)).trans ?_
    exact (View.read_writes_apply_of_pieces _ _ (G8 x0) _ (xlist0_ok arg3 harg3 x0) _ (xlist0_cover arg3 harg3 x0 _ k hr)).trans
      (G8_ix x0 _ k r.isLt)
  · exact (View.read_writes_apply_of_pieces _ _ (G8 x0) _ (xlist1_ok arg3 harg3 x0) _ (xlist1_cover arg3 harg3 x0 _ k (by show 416 ≤ r.val; omega) r.isLt)).trans
      (G8_ix x0 _ k r.isLt)

/-- The group size of the point's expert. -/
abbrev gsz : BitVec 32 := kernelRun.sl.r (F := Ideal) c i xt0

/-- The point is the first of its expert. -/
abbrev first : Prop := kernelRun.sl.v4 i = 1#1

theorem X0_ok (hQ : ¬ first i → Q x0 (gsz c i xt0) (arg8.view.read (Elt Ideal) fs0)) (r : Fin 416) (k : Fin 2048) (h : (r.val : ℤ) < (gsz c i xt0).toInt) :
    X0 (F := Ideal) c i arg3 harg3 arg8 x0 xt0 fs0 (ValueIdx.ix2 r k) = xqE (fun k => x0 (ValueIdx.ix3 0 ⟨r.val, by have := r.isLt; omega⟩ k)) k := by
  have he : (Rect.unit (s := S832x2048) ![0, 0] S416x2048.size inb_S832x2048_S416x2048_0_0).emb (ValueIdx.ix2 r k) = ValueIdx.ix2 ⟨r.val, by have := r.isLt; omega⟩ k :=
    Rect.emb_eq_of_coords _ _ _ fun a => match a with
      | ⟨0, _⟩ => by show r.val = 0 + 1 * r.val; omega
      | ⟨1, _⟩ => by show k.val = 0 + 1 * k.val; omega
  have key : ∀ f : arg8.view.ty.Contents (Elt Ideal), Q x0 (gsz c i xt0) (arg8.view.read (Elt Ideal) f) →
      View.readAt (Elt Ideal) arg8.view (Rect.unit (s := S832x2048) ![0, 0] S416x2048.size inb_S832x2048_S416x2048_0_0).toLoadRect f (ValueIdx.ix2 r k)
        = xqE (fun k => x0 (ValueIdx.ix3 0 ⟨r.val, by have := r.isLt; omega⟩ k)) k := fun f hf =>
    (congrArg (arg8.view.read (Elt Ideal) f) he).trans (hf ⟨r.val, by have := r.isLt; omega⟩ k h)
  refine key _ ?_
  split_ifs with h1 h2
  · exact q_write1 arg3 harg3 arg8 x0 fs0 _
  · exact q_write0 arg3 harg3 arg8 x0 fs0 _ (by have := (cond6_iff (gsz c i xt0)).not.mp h2; omega)
  · exact hQ h1

theorem X1_ok (hg : 416 < (gsz c i xt0).toInt) (hQ : ¬ first i → Q x0 (gsz c i xt0) (arg8.view.read (Elt Ideal) fs0)) (r : Fin 416) (k : Fin 2048) (hr : 416 + r.val < 820)
    (h : ((416 + r.val : ℕ) : ℤ) < (gsz c i xt0).toInt) :
    X1 (F := Ideal) c i arg3 harg3 arg8 x0 xt0 fs0 (ValueIdx.ix2 r k) = xqE (fun k => x0 (ValueIdx.ix3 0 ⟨416 + r.val, hr⟩ k)) k := by
  have he : (Rect.unit (s := S832x2048) ![416, 0] S416x2048.size inb_S832x2048_S416x2048_416_0).emb (ValueIdx.ix2 r k) = ValueIdx.ix2 ⟨416 + r.val, by have := r.isLt; omega⟩ k :=
    Rect.emb_eq_of_coords _ _ _ fun a => match a with
      | ⟨0, _⟩ => by show 416 + r.val = 416 + 1 * r.val; omega
      | ⟨1, _⟩ => by show k.val = 0 + 1 * k.val; omega
  have key : ∀ f : arg8.view.ty.Contents (Elt Ideal), Q x0 (gsz c i xt0) (arg8.view.read (Elt Ideal) f) →
      View.readAt (Elt Ideal) arg8.view (Rect.unit (s := S832x2048) ![416, 0] S416x2048.size inb_S832x2048_S416x2048_416_0).toLoadRect f (ValueIdx.ix2 r k)
        = xqE (fun k => x0 (ValueIdx.ix3 0 ⟨416 + r.val, hr⟩ k)) k := fun f hf =>
    (congrArg (arg8.view.read (Elt Ideal) f) he).trans (hf ⟨416 + r.val, hr⟩ k h)
  refine key _ ?_
  split_ifs with h1 h2 h2
  · exact q_write1 arg3 harg3 arg8 x0 fs0 _
  · exact hQ h2
  · exact absurd ((cond4_iff (gsz c i xt0)).mpr (by omega)) h1
  · exact hQ h2

/-! ## The output blocks -/

/-- The code of a row's entry. -/
def codeE (r : Fin 820) (o : Fin 256) : EReal :=
  cd (fun l => hE x0 x1 x2 g r (lane (n := 2) o l)) ⟨o.val % 128, Nat.mod_lt _ (by decide)⟩
/-- The scale of a row's block. -/
def scaleE (r : Fin 820) (b : Fin 2) : EReal :=
  sc fun l => hE x0 x1 x2 g r ⟨b.val * 128 + l.val, by have := b.isLt; have := l.isLt; omega⟩

theorem hE_out (r : Fin 820) (o : Fin 256) (h : g.toInt ≤ r.val) : hE x0 x1 x2 g r o = 0 := if_neg (by omega)
theorem codeE_out (r : Fin 820) (o : Fin 256) (h : g.toInt ≤ r.val) : codeE x0 x1 x2 g r o = 0 := by
  unfold codeE; simp only [hE_out x0 x1 x2 g r _ h]; exact cd_zero _
theorem scaleE_out (r : Fin 820) (b : Fin 2) (h : g.toInt ≤ r.val) : scaleE x0 x1 x2 g r b = 1 := by
  unfold scaleE; simp only [hE_out x0 x1 x2 g r _ h]; exact sc_zero

theorem kch_apply (h : FVec Ideal S416x128 .f32) (b : Fin 2) (r : Fin 416) (R : Fin 820)
    (hh : ∀ l : Fin 128, h (ValueIdx.ix2 r l) = hE x0 x1 x2 g R ⟨b.val * 128 + l.val, by have := b.isLt; have := l.isLt; omega⟩) (l : Fin 128) :
    kch (F := Ideal) h (ValueIdx.ix2 r l) = codeE x0 x1 x2 g R ⟨b.val * 128 + l.val, by have := b.isLt; have := l.isLt; omega⟩ := by
  have e : ∀ j : Fin 128, lane (n := 2) ⟨b.val * 128 + l.val, by have := b.isLt; have := l.isLt; omega⟩ j = ⟨b.val * 128 + j.val, by have := b.isLt; have := j.isLt; omega⟩ := fun j => by
    apply Fin.ext; have := l.isLt; show (b.val * 128 + l.val) / 128 * 128 + j.val = b.val * 128 + j.val; omega
  have e2 : (⟨(b.val * 128 + l.val) % 128, Nat.mod_lt _ (by decide)⟩ : Fin 128) = l := by
    apply Fin.ext; have := l.isLt; show (b.val * 128 + l.val) % 128 = l.val; omega
  refine (rowCode _ _ _ _ _ _ h r l).trans ?_
  unfold codeE
  simp only [hh, e, e2]

theorem ksc_apply (h : FVec Ideal S416x128 .f32) (b : Fin 2) (r : Fin 416) (R : Fin 820)
    (hh : ∀ l : Fin 128, h (ValueIdx.ix2 r l) = hE x0 x1 x2 g R ⟨b.val * 128 + l.val, by have := b.isLt; have := l.isLt; omega⟩) :
    kscl (F := Ideal) (kexh (F := Ideal) h) (ValueIdx.ix2 r 0) = scaleE x0 x1 x2 g R b := by
  refine (rowScale _ _ _ _ _ h r).trans ?_
  unfold scaleE
  simp only [hh]

theorem hblk_ok (off : ℕ) (b : Fin 2) (hb : off = b.val * 128) (hsl : S416x256.Slices ![0, off] S416x128) (r0 : BitVec 32) (r0n : ℕ)
    (hr0 : ∀ r : Fin 416, (r0 + BitVec.ofNat 32 (0 * 416 + r.val)).toInt = ((r0n + r.val : ℕ) : ℤ)) (X : Vec Ideal S416x2048 .bf16) (r : Fin 416) (hr : r0n + r.val < 820)
    (hX : ((r0n + r.val : ℕ) : ℤ) < (gsz c i xt0).toInt → ∀ k, X (ValueIdx.ix2 r k) = xqE (fun k => x0 (ValueIdx.ix3 0 ⟨r0n + r.val, hr⟩ k)) k) (l : Fin 128) :
    hblk (F := Ideal) c i arg4 harg4 arg5 harg5 arg9 x1 x2 xt0 off hsl r0 X (ValueIdx.ix2 r l)
      = hE x0 x1 x2 (gsz c i xt0) ⟨r0n + r.val, hr⟩ ⟨b.val * 128 + l.val, by have := b.isLt; have := l.isLt; omega⟩ := by
  subst hb
  unfold hblk hE
  rw [khid_apply _ (by have := b.isLt; omega) hsl r0 _ r0n hr0]
  simp only [w0_apply, w1_apply]
  unfold hidE
  by_cases h : ((r0n + r.val : ℕ) : ℤ) < (gsz c i xt0).toInt
  · rw [if_pos h, if_pos h]; simp only [hX h]
  · rw [if_neg h, if_neg h]

/-- The block of codes. -/
def G6 (y : S1x820x256.Idx) : EReal := codeE x0 x1 x2 g (y 1) (y 2)
/-- The block of scales. -/
def G7 (y : S1x1x820x2.Idx) : EReal := scaleE x0 x1 x2 g (y 2) (y 3)

end

end Cert.KernelIdeal.Hand
end
-- ==== Proof.Out.lean ====
/- What one run of the kernel's body leaves in its two output blocks. -/
module

public import proofs.«01_k».proof.Proof.Reads

@[expose] public section

set_option maxRecDepth 16384

noncomputable section

namespace Cert.KernelIdeal.Hand

open Cert.KernelIdeal.Gen Cert.Spec
open Idealize.ShloMosaic Idealize.ShloMosaic.TcCoe

/-! ## Casts that drop or add axes of length one -/

theorem cast12 {α : Type} {n w : ℕ} (v : (⟨2, ![n, w]⟩ : Shape).Idx → α) (h : (⟨2, ![n, w]⟩ : Shape).ShapeCasts ⟨3, ![1, n, w]⟩) (z : Fin 1) (r : Fin n) (l : Fin w) :
    shapeCast ⟨3, ![1, n, w]⟩ v h (ValueIdx.ix3 z r l) = v (ValueIdx.ix2 r l) :=
  shapeCast_apply v h (ValueIdx.ix3 z r l) (ValueIdx.ix2 r l) (by
    obtain rfl : z = 0 := Subsingleton.elim _ _
    rw [Shape.rowMajor_val_three, Shape.rowMajor_val_two]; show r.val * w + l.val = (0 * n + r.val) * w + l.val; rw [Nat.zero_mul, Nat.zero_add])

theorem cast13 {α : Type} {n w : ℕ} (v : (⟨2, ![n, w]⟩ : Shape).Idx → α) (h : (⟨2, ![n, w]⟩ : Shape).ShapeCasts ⟨4, ![1, 1, n, w]⟩) (z z' : Fin 1) (r : Fin n) (l : Fin w) :
    shapeCast ⟨4, ![1, 1, n, w]⟩ v h (ValueIdx.ix4 z z' r l) = v (ValueIdx.ix2 r l) :=
  shapeCast_apply v h (ValueIdx.ix4 z z' r l) (ValueIdx.ix2 r l) (by
    obtain rfl : z = 0 := Subsingleton.elim _ _
    obtain rfl : z' = 0 := Subsingleton.elim _ _
    rw [Shape.rowMajor_val_four, Shape.rowMajor_val_two]; show r.val * w + l.val = ((0 * 1 + 0) * n + r.val) * w + l.val; simp only [Nat.zero_mul, Nat.zero_add])

section
variable (c : Dev nD) (i : grid0.Coords) (arg3 : Memref sig .tc .vmem S1x820x2048 .bf16) (harg3 : arg3.IsWhole) (arg4 : Memref sig .tc .vmem S1x2x256x2048 .fp8e4m3) (harg4 : arg4.IsWhole) (arg5 : Memref sig .tc .smem S1x1x1x64 .f32) (harg5 : arg5.IsWhole)
    (arg6 : Memref sig .tc .vmem S1x820x256 .fp8e4m3) (arg7 : Memref sig .tc .vmem S1x1x820x2 .f32)
    (arg8 : Memref sig .tc .vmem S832x2048 .bf16) (arg9 : Memref sig .tc .vmem S2x256x2048 .bf16)
    (x0 : Vec Ideal S1x820x2048 .bf16) (x1 : Vec Ideal S1x2x256x2048 .fp8e4m3) (x2 : Vec Ideal S1x1x1x64 .f32)
    (xt0 : TbBuf0 (F := Ideal) c tbM0_0) (fs0 : arg8.view.ty.Contents (Elt Ideal)) (g : BitVec 32)

/-! ## Stores, one after another -/

/-- The rows of the codes' block selected by `P` are as they should be. -/
def A6 (f : arg6.view.ty.Contents (Elt Ideal)) (P : ℕ → Prop) : Prop :=
  ∀ y : S1x820x256.Idx, P (y 1).val → arg6.view.read (Elt Ideal) f y = G6 x0 x1 x2 g y
/-- The rows of the scales' block selected by `P` are as they should be. -/
def A7 (f : arg7.view.ty.Contents (Elt Ideal)) (P : ℕ → Prop) : Prop :=
  ∀ y : S1x1x820x2.Idx, P (y 2).val → arg7.view.read (Elt Ideal) f y = G7 x0 x1 x2 g y

/-- A list of stores of right codes. -/
def Good6 (L : List (View.Piece (Elt Ideal) S1x820x256 .fp8e4m3)) : Prop := ∀ p ∈ L, ∀ x : p.1.shape.Idx, p.2 x = G6 x0 x1 x2 g (p.1.emb x)
/-- A list of stores of right scales. -/
def Good7 (L : List (View.Piece (Elt Ideal) S1x1x820x2 .f32)) : Prop := ∀ p ∈ L, ∀ x : p.1.shape.Idx, p.2 x = G7 x0 x1 x2 g (p.1.emb x)

theorem A6_writes (f : arg6.view.ty.Contents (Elt Ideal)) (L : List (View.Piece (Elt Ideal) S1x820x256 .fp8e4m3)) (P T : ℕ → Prop) (hL : Good6 x0 x1 x2 g L)
    (hT : ∀ y : S1x820x256.Idx, T (y 1).val → ∃ p ∈ L, y ∈ p.1.set) (hf : A6 arg6 x0 x1 x2 g f P) :
    A6 arg6 x0 x1 x2 g (arg6.view.writes (Elt Ideal) f L) (fun r => P r ∨ T r) := fun y hy => by
  by_cases h : ∃ p ∈ L, y ∈ p.1.set
  · exact View.read_writes_apply_of_pieces (Val := Elt Ideal) (s := S1x820x256) (e := .fp8e4m3) arg6.view f (G6 x0 x1 x2 g) L hL y h
  · rw [View.read_writes_apply_of_forall_not_mem _ _ y L fun p hp hm => h ⟨p, hp, hm⟩]
    exact hf y (hy.resolve_right fun ht => h (hT y ht))
theorem A7_writes (f : arg7.view.ty.Contents (Elt Ideal)) (L : List (View.Piece (Elt Ideal) S1x1x820x2 .f32)) (P T : ℕ → Prop) (hL : Good7 x0 x1 x2 g L)
    (hT : ∀ y : S1x1x820x2.Idx, T (y 2).val → ∃ p ∈ L, y ∈ p.1.set) (hf : A7 arg7 x0 x1 x2 g f P) :
    A7 arg7 x0 x1 x2 g (arg7.view.writes (Elt Ideal) f L) (fun r => P r ∨ T r) := fun y hy => by
  by_cases h : ∃ p ∈ L, y ∈ p.1.set
  · exact View.read_writes_apply_of_pieces (Val := Elt Ideal) (s := S1x1x820x2) (e := .f32) arg7.view f (G7 x0 x1 x2 g) L hL y h
  · rw [View.read_writes_apply_of_forall_not_mem _ _ y L fun p hp hm => h ⟨p, hp, hm⟩]
    exact hf y (hy.resolve_right fun ht => h (hT y ht))

/-- A store of a box of right codes. -/
theorem box6 (o n p w : ℕ) (inb : ∀ a : Fin 3, (![0, o, p] : Fin 3 → ℕ) a + (![1, n, w] : Fin 3 → ℕ) a ≤ S1x820x256.size a) (V : (⟨3, ![1, n, w]⟩ : Shape).Idx → EReal)
    (hV : ∀ (r : Fin n) (l : Fin w) (h1 : o + r.val < 820) (h2 : p + l.val < 256), V (ValueIdx.ix3 0 r l) = codeE x0 x1 x2 g ⟨o + r.val, h1⟩ ⟨p + l.val, h2⟩)
    (x : (⟨3, ![1, n, w]⟩ : Shape).Idx) : V x = G6 x0 x1 x2 g ((Rect.unit (s := S1x820x256) ![0, o, p] ![1, n, w] inb).emb x) := by
  obtain ⟨z, r, l, rfl⟩ : ∃ (z : Fin 1) (r : Fin n) (l : Fin w), x = ValueIdx.ix3 z r l := ⟨_, _, _, ValueIdx.eq_ix3 x⟩
  obtain rfl : z = 0 := Subsingleton.elim _ _
  have i1 : o + n ≤ 820 := inb 1
  have i2 : p + w ≤ 256 := inb 2
  have hr := r.isLt; have hl := l.isLt
  have he : (Rect.unit (s := S1x820x256) ![0, o, p] ![1, n, w] inb).emb (ValueIdx.ix3 0 r l) = ValueIdx.ix3 (0 : Fin 1) (⟨o + r.val, by omega⟩ : Fin 820) (⟨p + l.val, by omega⟩ : Fin 256) :=
    Rect.emb_eq_of_coords _ _ _ fun a => match a with
      | ⟨0, _⟩ => rfl
      | ⟨1, _⟩ => by show o + r.val = o + 1 * r.val; omega
      | ⟨2, _⟩ => by show p + l.val = p + 1 * l.val; omega
  rw [he]
  exact hV r l (by omega) (by omega)
/-- A store of a box of right scales. -/
theorem box7 (o n p w : ℕ) (inb : ∀ a : Fin 4, (![0, 0, o, p] : Fin 4 → ℕ) a + (![1, 1, n, w] : Fin 4 → ℕ) a ≤ S1x1x820x2.size a) (V : (⟨4, ![1, 1, n, w]⟩ : Shape).Idx → EReal)
    (hV : ∀ (r : Fin n) (l : Fin w) (h1 : o + r.val < 820) (h2 : p + l.val < 2), V (ValueIdx.ix4 0 0 r l) = scaleE x0 x1 x2 g ⟨o + r.val, h1⟩ ⟨p + l.val, h2⟩)
    (x : (⟨4, ![1, 1, n, w]⟩ : Shape).Idx) : V x = G7 x0 x1 x2 g ((Rect.unit (s := S1x1x820x2) ![0, 0, o, p] ![1, 1, n, w] inb).emb x) := by
  obtain ⟨z, z', r, l, rfl⟩ : ∃ (z z' : Fin 1) (r : Fin n) (l : Fin w), x = ValueIdx.ix4 z z' r l := ⟨_, _, _, _, ValueIdx.eq_ix4 x⟩
  obtain rfl : z = 0 := Subsingleton.elim _ _
  obtain rfl : z' = 0 := Subsingleton.elim _ _
  have i1 : o + n ≤ 820 := inb 2
  have i2 : p + w ≤ 2 := inb 3
  have hr := r.isLt; have hl := l.isLt
  have he : (Rect.unit (s := S1x1x820x2) ![0, 0, o, p] ![1, 1, n, w] inb).emb (ValueIdx.ix4 0 0 r l) = ValueIdx.ix4 (0 : Fin 1) (0 : Fin 1) (⟨o + r.val, by omega⟩ : Fin 820) (⟨p + l.val, by omega⟩ : Fin 2) :=
    Rect.emb_eq_of_coords _ _ _ fun a => match a with
      | ⟨0, _⟩ => rfl
      | ⟨1, _⟩ => rfl
      | ⟨2, _⟩ => by show o + r.val = o + 1 * r.val; omega
      | ⟨3, _⟩ => by show p + l.val = p + 1 * l.val; omega
  rw [he]
  exact hV r l (by omega) (by omega)

/-- Where a box of codes reaches. -/
theorem mem6 (o n p w : ℕ) (inb : ∀ a : Fin 3, (![0, o, p] : Fin 3 → ℕ) a + (![1, n, w] : Fin 3 → ℕ) a ≤ S1x820x256.size a) (y : S1x820x256.Idx)
    (h1 : o ≤ (y 1).val) (h2 : (y 1).val < o + n) (h3 : p ≤ (y 2).val) (h4 : (y 2).val < p + w) : y ∈ (Rect.unit (s := S1x820x256) ![0, o, p] ![1, n, w] inb).set :=
  mem_of_coords _ (ValueIdx.ix3 (0 : Fin 1) (⟨(y 1).val - o, by omega⟩ : Fin n) (⟨(y 2).val - p, by omega⟩ : Fin w)) _ fun a => match a with
    | ⟨0, _⟩ => by have : (y 0).val < 1 := (y 0).isLt; show (y 0).val = 0 + 1 * 0; omega
    | ⟨1, _⟩ => by show (y 1).val = o + 1 * ((y 1).val - o); omega
    | ⟨2, _⟩ => by show (y 2).val = p + 1 * ((y 2).val - p); omega
/-- Where a box of scales reaches. -/
theorem mem7 (o n p w : ℕ) (inb : ∀ a : Fin 4, (![0, 0, o, p] : Fin 4 → ℕ) a + (![1, 1, n, w] : Fin 4 → ℕ) a ≤ S1x1x820x2.size a) (y : S1x1x820x2.Idx)
    (h1 : o ≤ (y 2).val) (h2 : (y 2).val < o + n) (h3 : p ≤ (y 3).val) (h4 : (y 3).val < p + w) : y ∈ (Rect.unit (s := S1x1x820x2) ![0, 0, o, p] ![1, 1, n, w] inb).set :=
  mem_of_coords _ (ValueIdx.ix4 (0 : Fin 1) (0 : Fin 1) (⟨(y 2).val - o, by omega⟩ : Fin n) (⟨(y 3).val - p, by omega⟩ : Fin w)) _ fun a => match a with
    | ⟨0, _⟩ => by have : (y 0).val < 1 := (y 0).isLt; show (y 0).val = 0 + 1 * 0; omega
    | ⟨1, _⟩ => by have : (y 1).val < 1 := (y 1).isLt; show (y 1).val = 0 + 1 * 0; omega
    | ⟨2, _⟩ => by show (y 2).val = o + 1 * ((y 2).val - o); omega
    | ⟨3, _⟩ => by show (y 3).val = p + 1 * ((y 3).val - p); omega

/-! ## The six lists of stores -/

theorem zeros_ok (o n : ℕ) (inb : ∀ a : Fin 3, (![0, o, 0] : Fin 3 → ℕ) a + (![1, n, 256] : Fin 3 → ℕ) a ≤ S1x820x256.size a) (hg : g.toInt ≤ o) :
    Good6 x0 x1 x2 g [⟨Rect.unit (s := S1x820x256) ![0, o, 0] ![1, n, 256] inb, fun _ => (0 : EReal)⟩] := by
  intro p hp
  obtain rfl := List.mem_singleton.mp hp
  exact box6 x0 x1 x2 g o n 0 256 inb _ fun r l h1 h2 => (codeE_out x0 x1 x2 g _ _ (by push_cast; omega)).symm
theorem ones_ok (o n : ℕ) (inb : ∀ a : Fin 4, (![0, 0, o, 0] : Fin 4 → ℕ) a + (![1, 1, n, 2] : Fin 4 → ℕ) a ≤ S1x1x820x2.size a) (hg : g.toInt ≤ o) :
    Good7 x0 x1 x2 g [⟨Rect.unit (s := S1x1x820x2) ![0, 0, o, 0] ![1, 1, n, 2] inb, fun _ => (1 : EReal)⟩] := by
  intro p hp
  obtain rfl := List.mem_singleton.mp hp
  exact box7 x0 x1 x2 g o n 0 2 inb _ fun r l h1 h2 => (scaleE_out x0 x1 x2 g _ _ (by push_cast; omega)).symm

theorem pay1_eq : k0_pay1 (F := Ideal) = fun _ => (0 : EReal) := funext fun _ => Idealize.ShloMosaic.Ideal.ofBits_zero .fp8e4m3
theorem pay242_eq : k0_pay242 (F := Ideal) = fun _ => (0 : EReal) := funext fun _ => Idealize.ShloMosaic.Ideal.ofBits_zero .fp8e4m3
theorem pay2_eq : k0_pay2 (F := Ideal) = fun _ => (1 : EReal) := funext fun _ => ofBits_one
theorem pay243_eq : k0_pay243 (F := Ideal) = fun _ => (1 : EReal) := funext fun _ => ofBits_one

theorem row0_ok (b : Fin 2) (off : ℕ) (hb : off = b.val * 128) (hsl : S416x256.Slices ![0, off] S416x128)
    (hQ : ¬ first i → Q x0 (gsz c i xt0) (arg8.view.read (Elt Ideal) fs0)) (r : Fin 416) (l : Fin 128) :
    hblk (F := Ideal) c i arg4 harg4 arg5 harg5 arg9 x1 x2 xt0 off hsl 0#32 (X0 c i arg3 harg3 arg8 x0 xt0 fs0) (ValueIdx.ix2 r l)
      = hE x0 x1 x2 (gsz c i xt0) ⟨0 + r.val, by have := r.isLt; omega⟩ ⟨b.val * 128 + l.val, by have := b.isLt; have := l.isLt; omega⟩ :=
  hblk_ok c i arg4 harg4 arg5 harg5 arg9 x0 x1 x2 xt0 off b hb hsl 0#32 0 row_word0 _ r _ (fun h k => by
    rw [X0_ok c i arg3 harg3 arg8 x0 xt0 fs0 hQ r k (by rwa [Nat.zero_add] at h)]
    congr 2; exact funext fun k => congrArg (fun a => x0 (ValueIdx.ix3 0 a k)) (Fin.ext (Nat.zero_add _).symm)) l

theorem row1_ok (hg : 416 < (gsz c i xt0).toInt) (b : Fin 2) (off : ℕ) (hb : off = b.val * 128) (hsl : S416x256.Slices ![0, off] S416x128)
    (hQ : ¬ first i → Q x0 (gsz c i xt0) (arg8.view.read (Elt Ideal) fs0)) (r : Fin 416) (hr : 416 + r.val < 820) (l : Fin 128) :
    hblk (F := Ideal) c i arg4 harg4 arg5 harg5 arg9 x1 x2 xt0 off hsl 416#32 (X1 c i arg3 harg3 arg8 x0 xt0 fs0) (ValueIdx.ix2 r l)
      = hE x0 x1 x2 (gsz c i xt0) ⟨416 + r.val, hr⟩ ⟨b.val * 128 + l.val, by have := b.isLt; have := l.isLt; omega⟩ :=
  hblk_ok c i arg4 harg4 arg5 harg5 arg9 x0 x1 x2 xt0 off b hb hsl 416#32 416 row_word1 _ r _ (fun h k =>
    X1_ok c i arg3 harg3 arg8 x0 xt0 fs0 hg hQ r k hr h) l

/-- Chunk 0's block of codes. -/
theorem code0_ok (b : Fin 2) (off : ℕ) (hb : off = b.val * 128) (hsl : S416x256.Slices ![0, off] S416x128)
    (hQ : ¬ first i → Q x0 (gsz c i xt0) (arg8.view.read (Elt Ideal) fs0)) (r : Fin 416) (l : Fin 128) (h1 : 0 + r.val < 820) (h2 : off + l.val < 256) :
    shapeCast S1x416x128 (kch (F := Ideal) (hblk c i arg4 harg4 arg5 harg5 arg9 x1 x2 xt0 off hsl 0#32 (X0 c i arg3 harg3 arg8 x0 xt0 fs0))) shapeCasts_S416x128_S1x416x128 (ValueIdx.ix3 0 r l)
      = codeE x0 x1 x2 (gsz c i xt0) ⟨0 + r.val, h1⟩ ⟨off + l.val, h2⟩ := by
  rw [cast12]
  subst hb
  exact kch_apply x0 x1 x2 _ _ b r _ (fun l => row0_ok c i arg3 harg3 arg4 harg4 arg5 harg5 arg8 arg9 x0 x1 x2 xt0 fs0 b _ rfl hsl hQ r l) l
/-- Chunk 0's block of scales. -/
theorem scale0_ok (b : Fin 2) (off : ℕ) (hb : off = b.val * 128) (hsl : S416x256.Slices ![0, off] S416x128)
    (hQ : ¬ first i → Q x0 (gsz c i xt0) (arg8.view.read (Elt Ideal) fs0)) (r : Fin 416) (l : Fin 1) (h1 : 0 + r.val < 820) (h2 : b.val + l.val < 2) :
    shapeCast S1x1x416x1 (kscl (F := Ideal) (kexh (F := Ideal) (hblk c i arg4 harg4 arg5 harg5 arg9 x1 x2 xt0 off hsl 0#32 (X0 c i arg3 harg3 arg8 x0 xt0 fs0)))) shapeCasts_S416x1_S1x1x416x1 (ValueIdx.ix4 0 0 r l)
      = scaleE x0 x1 x2 (gsz c i xt0) ⟨0 + r.val, h1⟩ ⟨b.val + l.val, h2⟩ := by
  rw [cast13]
  obtain rfl : l = 0 := Subsingleton.elim _ _
  exact ksc_apply x0 x1 x2 _ _ b r _ (fun l => row0_ok c i arg3 harg3 arg4 harg4 arg5 harg5 arg8 arg9 x0 x1 x2 xt0 fs0 b _ hb hsl hQ r l)
/-- Chunk 1's block of codes. -/
theorem code1_ok (hg : 416 < (gsz c i xt0).toInt) (b : Fin 2) (off : ℕ) (hb : off = b.val * 128) (hsl : S416x256.Slices ![0, off] S416x128)
    (hQ : ¬ first i → Q x0 (gsz c i xt0) (arg8.view.read (Elt Ideal) fs0)) (r : Fin 404) (l : Fin 128) (h1 : 416 + r.val < 820) (h2 : off + l.val < 256) :
    shapeCast S1x404x128 (extractStridedSlice S404x128 ![0, 0] (kch (F := Ideal) (hblk c i arg4 harg4 arg5 harg5 arg9 x1 x2 xt0 off hsl 416#32 (X1 c i arg3 harg3 arg8 x0 xt0 fs0))) slices_S416x128_o0_0_S404x128) shapeCasts_S404x128_S1x404x128 (ValueIdx.ix3 0 r l)
      = codeE x0 x1 x2 (gsz c i xt0) ⟨416 + r.val, h1⟩ ⟨off + l.val, h2⟩ := by
  rw [cast12, extractStridedSlice_apply _ _ slices_S416x128_o0_0_S404x128 (ValueIdx.ix2 r l) (ValueIdx.ix2 (⟨r.val, by omega⟩ : Fin 416) l) (fun a => match a with
      | ⟨0, _⟩ => by show r.val = 0 + r.val; omega
      | ⟨1, _⟩ => by show l.val = 0 + l.val; omega)]
  subst hb
  exact kch_apply x0 x1 x2 _ _ b _ ⟨416 + r.val, h1⟩ (fun l => row1_ok c i arg3 harg3 arg4 harg4 arg5 harg5 arg8 arg9 x0 x1 x2 xt0 fs0 hg b _ rfl hsl hQ ⟨r.val, by omega⟩ h1 l) l
/-- Chunk 1's block of scales. -/
theorem scale1_ok (hg : 416 < (gsz c i xt0).toInt) (b : Fin 2) (off : ℕ) (hb : off = b.val * 128) (hsl : S416x256.Slices ![0, off] S416x128)
    (hQ : ¬ first i → Q x0 (gsz c i xt0) (arg8.view.read (Elt Ideal) fs0)) (r : Fin 404) (l : Fin 1) (h1 : 416 + r.val < 820) (h2 : b.val + l.val < 2) :
    shapeCast S1x1x404x1 (extractStridedSlice S404x1 ![0, 0] (kscl (F := Ideal) (kexh (F := Ideal) (hblk c i arg4 harg4 arg5 harg5 arg9 x1 x2 xt0 off hsl 416#32 (X1 c i arg3 harg3 arg8 x0 xt0 fs0)))) slices_S416x1_o0_0_S404x1) shapeCasts_S404x1_S1x1x404x1 (ValueIdx.ix4 0 0 r l)
      = scaleE x0 x1 x2 (gsz c i xt0) ⟨416 + r.val, h1⟩ ⟨b.val + l.val, h2⟩ := by
  obtain rfl : l = 0 := Subsingleton.elim _ _
  rw [cast13, extractStridedSlice_apply _ _ slices_S416x1_o0_0_S404x1 (ValueIdx.ix2 r 0) (ValueIdx.ix2 (⟨r.val, by omega⟩ : Fin 416) 0) (fun a => match a with
      | ⟨0, _⟩ => by show r.val = 0 + r.val; omega
      | ⟨1, _⟩ => rfl)]
  exact ksc_apply x0 x1 x2 _ _ b _ ⟨416 + r.val, h1⟩ (fun l => row1_ok c i arg3 harg3 arg4 harg4 arg5 harg5 arg8 arg9 x0 x1 x2 xt0 fs0 hg b _ hb hsl hQ ⟨r.val, by omega⟩ h1 l)

theorem clist0_ok (hQ : ¬ first i → Q x0 (gsz c i xt0) (arg8.view.read (Elt Ideal) fs0)) :
    Good6 x0 x1 x2 (gsz c i xt0) (clist0 (F := Ideal) c i arg3 harg3 arg4 harg4 arg5 harg5 arg8 arg9 x0 x1 x2 xt0 fs0) := by
  intro p hp
  rcases List.mem_cons.mp hp with rfl | hp
  · exact box6 x0 x1 x2 _ 0 416 128 128 inb_S1x820x256_S1x416x128_0_0_128 _ fun r l h1 h2 => code0_ok c i arg3 harg3 arg4 harg4 arg5 harg5 arg8 arg9 x0 x1 x2 xt0 fs0 1 128 rfl _ hQ r l h1 h2
  · obtain rfl := List.mem_singleton.mp hp
    exact box6 x0 x1 x2 _ 0 416 0 128 inb_S1x820x256_S1x416x128_0_0_0 _ fun r l h1 h2 => code0_ok c i arg3 harg3 arg4 harg4 arg5 harg5 arg8 arg9 x0 x1 x2 xt0 fs0 0 0 rfl _ hQ r l h1 h2
theorem clist1_ok (hg : 416 < (gsz c i xt0).toInt) (hQ : ¬ first i → Q x0 (gsz c i xt0) (arg8.view.read (Elt Ideal) fs0)) :
    Good6 x0 x1 x2 (gsz c i xt0) (clist1 (F := Ideal) c i arg3 harg3 arg4 harg4 arg5 harg5 arg8 arg9 x0 x1 x2 xt0 fs0) := by
  intro p hp
  rcases List.mem_cons.mp hp with rfl | hp
  · exact box6 x0 x1 x2 _ 416 404 128 128 inb_S1x820x256_S1x404x128_0_416_128 _ fun r l h1 h2 => code1_ok c i arg3 harg3 arg4 harg4 arg5 harg5 arg8 arg9 x0 x1 x2 xt0 fs0 hg 1 128 rfl _ hQ r l h1 h2
  · obtain rfl := List.mem_singleton.mp hp
    exact box6 x0 x1 x2 _ 416 404 0 128 inb_S1x820x256_S1x404x128_0_416_0 _ fun r l h1 h2 => code1_ok c i arg3 harg3 arg4 harg4 arg5 harg5 arg8 arg9 x0 x1 x2 xt0 fs0 hg 0 0 rfl _ hQ r l h1 h2
theorem slist0_ok (hQ : ¬ first i → Q x0 (gsz c i xt0) (arg8.view.read (Elt Ideal) fs0)) :
    Good7 x0 x1 x2 (gsz c i xt0) (slist0 (F := Ideal) c i arg3 harg3 arg4 harg4 arg5 harg5 arg8 arg9 x0 x1 x2 xt0 fs0) := by
  intro p hp
  rcases List.mem_cons.mp hp with rfl | hp
  · exact box7 x0 x1 x2 _ 0 416 1 1 inb_S1x1x820x2_S1x1x416x1_0_0_0_1 _ fun r l h1 h2 => scale0_ok c i arg3 harg3 arg4 harg4 arg5 harg5 arg8 arg9 x0 x1 x2 xt0 fs0 1 128 rfl _ hQ r l h1 h2
  · obtain rfl := List.mem_singleton.mp hp
    exact box7 x0 x1 x2 _ 0 416 0 1 inb_S1x1x820x2_S1x1x416x1_0_0_0_0 _ fun r l h1 h2 => scale0_ok c i arg3 harg3 arg4 harg4 arg5 harg5 arg8 arg9 x0 x1 x2 xt0 fs0 0 0 rfl _ hQ r l h1 h2
theorem slist1_ok (hg : 416 < (gsz c i xt0).toInt) (hQ : ¬ first i → Q x0 (gsz c i xt0) (arg8.view.read (Elt Ideal) fs0)) :
    Good7 x0 x1 x2 (gsz c i xt0) (slist1 (F := Ideal) c i arg3 harg3 arg4 harg4 arg5 harg5 arg8 arg9 x0 x1 x2 xt0 fs0) := by
  intro p hp
  rcases List.mem_cons.mp hp with rfl | hp
  · exact box7 x0 x1 x2 _ 416 404 1 1 inb_S1x1x820x2_S1x1x404x1_0_0_416_1 _ fun r l h1 h2 => scale1_ok c i arg3 harg3 arg4 harg4 arg5 harg5 arg8 arg9 x0 x1 x2 xt0 fs0 hg 1 128 rfl _ hQ r l h1 h2
  · obtain rfl := List.mem_singleton.mp hp
    exact box7 x0 x1 x2 _ 416 404 0 1 inb_S1x1x820x2_S1x1x404x1_0_0_416_0 _ fun r l h1 h2 => scale1_ok c i arg3 harg3 arg4 harg4 arg5 harg5 arg8 arg9 x0 x1 x2 xt0 fs0 hg 0 0 rfl _ hQ r l h1 h2

theorem clist0_cover (y : S1x820x256.Idx) (h : (y 1).val < 416) :
    ∃ p ∈ clist0 (F := Ideal) c i arg3 harg3 arg4 harg4 arg5 harg5 arg8 arg9 x0 x1 x2 xt0 fs0, y ∈ p.1.set := by
  have h2 : (y 2).val < 256 := (y 2).isLt
  by_cases hc : (y 2).val < 128
  · exact ⟨_, List.mem_cons_of_mem _ List.mem_cons_self, mem6 0 416 0 128 inb_S1x820x256_S1x416x128_0_0_0 y (by omega) (by omega) (by omega) (by omega)⟩
  · exact ⟨_, List.mem_cons_self, mem6 0 416 128 128 inb_S1x820x256_S1x416x128_0_0_128 y (by omega) (by omega) (by omega) (by omega)⟩
theorem clist1_cover (y : S1x820x256.Idx) (h : 416 ≤ (y 1).val) :
    ∃ p ∈ clist1 (F := Ideal) c i arg3 harg3 arg4 harg4 arg5 harg5 arg8 arg9 x0 x1 x2 xt0 fs0, y ∈ p.1.set := by
  have h1 : (y 1).val < 820 := (y 1).isLt
  have h2 : (y 2).val < 256 := (y 2).isLt
  by_cases hc : (y 2).val < 128
  · exact ⟨_, List.mem_cons_of_mem _ List.mem_cons_self, mem6 416 404 0 128 inb_S1x820x256_S1x404x128_0_416_0 y (by omega) (by omega) (by omega) (by omega)⟩
  · exact ⟨_, List.mem_cons_self, mem6 416 404 128 128 inb_S1x820x256_S1x404x128_0_416_128 y (by omega) (by omega) (by omega) (by omega)⟩
theorem slist0_cover (y : S1x1x820x2.Idx) (h : (y 2).val < 416) :
    ∃ p ∈ slist0 (F := Ideal) c i arg3 harg3 arg4 harg4 arg5 harg5 arg8 arg9 x0 x1 x2 xt0 fs0, y ∈ p.1.set := by
  have h2 : (y 3).val < 2 := (y 3).isLt
  by_cases hc : (y 3).val < 1
  · exact ⟨_, List.mem_cons_of_mem _ List.mem_cons_self, mem7 0 416 0 1 inb_S1x1x820x2_S1x1x416x1_0_0_0_0 y (by omega) (by omega) (by omega) (by omega)⟩
  · exact ⟨_, List.mem_cons_self, mem7 0 416 1 1 inb_S1x1x820x2_S1x1x416x1_0_0_0_1 y (by omega) (by omega) (by omega) (by omega)⟩
theorem slist1_cover (y : S1x1x820x2.Idx) (h : 416 ≤ (y 2).val) :
    ∃ p ∈ slist1 (F := Ideal) c i arg3 harg3 arg4 harg4 arg5 harg5 arg8 arg9 x0 x1 x2 xt0 fs0, y ∈ p.1.set := by
  have h1 : (y 2).val < 820 := (y 2).isLt
  have h2 : (y 3).val < 2 := (y 3).isLt
  by_cases hc : (y 3).val < 1
  · exact ⟨_, List.mem_cons_of_mem _ List.mem_cons_self, mem7 416 404 0 1 inb_S1x1x820x2_S1x1x404x1_0_0_416_0 y (by omega) (by omega) (by omega) (by omega)⟩
  · exact ⟨_, List.mem_cons_self, mem7 416 404 1 1 inb_S1x1x820x2_S1x1x404x1_0_0_416_1 y (by omega) (by omega) (by omega) (by omega)⟩

/-! ## The output blocks after the run -/

variable (f6 : arg6.view.ty.Contents (Elt Ideal)) (f7 : arg7.view.ty.Contents (Elt Ideal))

/-- No row of the group: zeros throughout. -/
theorem codes_none (hg : (gsz c i xt0).toInt ≤ 0) :
    arg6.view.read (Elt Ideal) (arg6.view.writes (Elt Ideal) (arg6.view.writes (Elt Ideal) f6
        [⟨Rect.unit (s := S1x820x256) ![0, 0, 0] S1x416x256.size inb_S1x820x256_S1x416x256_0_0_0, k0_pay242 (F := Ideal)⟩])
        [⟨Rect.unit (s := S1x820x256) ![0, 416, 0] S1x404x256.size inb_S1x820x256_S1x404x256_0_416_0, k0_pay1 (F := Ideal)⟩])
      = G6 x0 x1 x2 (gsz c i xt0) := funext fun y => by
  have h1 : (y 1).val < 820 := (y 1).isLt
  have h2 : (y 2).val < 256 := (y 2).isLt
  rw [pay242_eq, pay1_eq]
  exact A6_writes arg6 x0 x1 x2 _ _ _ _ (fun r => 416 ≤ r) (zeros_ok x0 x1 x2 _ 416 404 inb_S1x820x256_S1x404x256_0_416_0 (by push_cast; omega))
    (fun y h => ⟨_, List.mem_cons_self, mem6 416 404 0 256 inb_S1x820x256_S1x404x256_0_416_0 y (by omega) (by have : (y 1).val < 820 := (y 1).isLt; omega) (by omega) (by have : (y 2).val < 256 := (y 2).isLt; omega)⟩)
    (A6_writes arg6 x0 x1 x2 _ _ _ (fun _ => False) (fun r => r < 416) (zeros_ok x0 x1 x2 _ 0 416 inb_S1x820x256_S1x416x256_0_0_0 (by push_cast; omega))
      (fun y h => ⟨_, List.mem_cons_self, mem6 0 416 0 256 inb_S1x820x256_S1x416x256_0_0_0 y (by omega) (by omega) (by omega) (by have : (y 2).val < 256 := (y 2).isLt; omega)⟩) fun _ h => h.elim) y (by omega)
/-- The group ends in the first chunk of rows. -/
theorem codes_some (hg : (gsz c i xt0).toInt ≤ 416) (hQ : ¬ first i → Q x0 (gsz c i xt0) (arg8.view.read (Elt Ideal) fs0)) :
    arg6.view.read (Elt Ideal) (arg6.view.writes (Elt Ideal) (arg6.view.writes (Elt Ideal) f6 (clist0 (F := Ideal) c i arg3 harg3 arg4 harg4 arg5 harg5 arg8 arg9 x0 x1 x2 xt0 fs0))
        [⟨Rect.unit (s := S1x820x256) ![0, 416, 0] S1x404x256.size inb_S1x820x256_S1x404x256_0_416_0, k0_pay1 (F := Ideal)⟩])
      = G6 x0 x1 x2 (gsz c i xt0) := funext fun y => by
  have h1 : (y 1).val < 820 := (y 1).isLt
  rw [pay1_eq]
  exact A6_writes arg6 x0 x1 x2 _ _ _ _ (fun r => 416 ≤ r) (zeros_ok x0 x1 x2 _ 416 404 inb_S1x820x256_S1x404x256_0_416_0 (by push_cast; omega))
    (fun y h => ⟨_, List.mem_cons_self, mem6 416 404 0 256 inb_S1x820x256_S1x404x256_0_416_0 y (by omega) (by have : (y 1).val < 820 := (y 1).isLt; omega) (by omega) (by have : (y 2).val < 256 := (y 2).isLt; omega)⟩)
    (A6_writes arg6 x0 x1 x2 _ _ _ (fun _ => False) (fun r => r < 416) (clist0_ok c i arg3 harg3 arg4 harg4 arg5 harg5 arg8 arg9 x0 x1 x2 xt0 fs0 hQ)
      (clist0_cover c i arg3 harg3 arg4 harg4 arg5 harg5 arg8 arg9 x0 x1 x2 xt0 fs0) fun _ h => h.elim) y (by omega)
/-- The group reaches the second chunk of rows. -/
theorem codes_all (hg : 416 < (gsz c i xt0).toInt) (hQ : ¬ first i → Q x0 (gsz c i xt0) (arg8.view.read (Elt Ideal) fs0)) :
    arg6.view.read (Elt Ideal) (arg6.view.writes (Elt Ideal) (arg6.view.writes (Elt Ideal) f6 (clist0 (F := Ideal) c i arg3 harg3 arg4 harg4 arg5 harg5 arg8 arg9 x0 x1 x2 xt0 fs0))
        (clist1 (F := Ideal) c i arg3 harg3 arg4 harg4 arg5 harg5 arg8 arg9 x0 x1 x2 xt0 fs0))
      = G6 x0 x1 x2 (gsz c i xt0) := funext fun y => by
  exact A6_writes arg6 x0 x1 x2 _ _ _ _ (fun r => 416 ≤ r) (clist1_ok c i arg3 harg3 arg4 harg4 arg5 harg5 arg8 arg9 x0 x1 x2 xt0 fs0 hg hQ)
    (clist1_cover c i arg3 harg3 arg4 harg4 arg5 harg5 arg8 arg9 x0 x1 x2 xt0 fs0)
    (A6_writes arg6 x0 x1 x2 _ _ _ (fun _ => False) (fun r => r < 416) (clist0_ok c i arg3 harg3 arg4 harg4 arg5 harg5 arg8 arg9 x0 x1 x2 xt0 fs0 hQ)
      (clist0_cover c i arg3 harg3 arg4 harg4 arg5 harg5 arg8 arg9 x0 x1 x2 xt0 fs0) fun _ h => h.elim) y (by omega)

/-- No row of the group: ones throughout. -/
theorem scales_none (hg : (gsz c i xt0).toInt ≤ 0) :
    arg7.view.read (Elt Ideal) (arg7.view.writes (Elt Ideal) (arg7.view.writes (Elt Ideal) f7
        [⟨Rect.unit (s := S1x1x820x2) ![0, 0, 0, 0] S1x1x416x2.size inb_S1x1x820x2_S1x1x416x2_0_0_0_0, k0_pay243 (F := Ideal)⟩])
        [⟨Rect.unit (s := S1x1x820x2) ![0, 0, 416, 0] S1x1x404x2.size inb_S1x1x820x2_S1x1x404x2_0_0_416_0, k0_pay2 (F := Ideal)⟩])
      = G7 x0 x1 x2 (gsz c i xt0) := funext fun y => by
  have h1 : (y 2).val < 820 := (y 2).isLt
  rw [pay243_eq, pay2_eq]
  exact A7_writes arg7 x0 x1 x2 _ _ _ _ (fun r => 416 ≤ r) (ones_ok x0 x1 x2 _ 416 404 inb_S1x1x820x2_S1x1x404x2_0_0_416_0 (by push_cast; omega))
    (fun y h => ⟨_, List.mem_cons_self, mem7 416 404 0 2 inb_S1x1x820x2_S1x1x404x2_0_0_416_0 y (by omega) (by have : (y 2).val < 820 := (y 2).isLt; omega) (by omega) (by have : (y 3).val < 2 := (y 3).isLt; omega)⟩)
    (A7_writes arg7 x0 x1 x2 _ _ _ (fun _ => False) (fun r => r < 416) (ones_ok x0 x1 x2 _ 0 416 inb_S1x1x820x2_S1x1x416x2_0_0_0_0 (by push_cast; omega))
      (fun y h => ⟨_, List.mem_cons_self, mem7 0 416 0 2 inb_S1x1x820x2_S1x1x416x2_0_0_0_0 y (by omega) (by omega) (by omega) (by have : (y 3).val < 2 := (y 3).isLt; omega)⟩) fun _ h => h.elim) y (by omega)
/-- The group ends in the first chunk of rows. -/
theorem scales_some (hg : (gsz c i xt0).toInt ≤ 416) (hQ : ¬ first i → Q x0 (gsz c i xt0) (arg8.view.read (Elt Ideal) fs0)) :
    arg7.view.read (Elt Ideal) (arg7.view.writes (Elt Ideal) (arg7.view.writes (Elt Ideal) f7 (slist0 (F := Ideal) c i arg3 harg3 arg4 harg4 arg5 harg5 arg8 arg9 x0 x1 x2 xt0 fs0))
        [⟨Rect.unit (s := S1x1x820x2) ![0, 0, 416, 0] S1x1x404x2.size inb_S1x1x820x2_S1x1x404x2_0_0_416_0, k0_pay2 (F := Ideal)⟩])
      = G7 x0 x1 x2 (gsz c i xt0) := funext fun y => by
  have h1 : (y 2).val < 820 := (y 2).isLt
  rw [pay2_eq]
  exact A7_writes arg7 x0 x1 x2 _ _ _ _ (fun r => 416 ≤ r) (ones_ok x0 x1 x2 _ 416 404 inb_S1x1x820x2_S1x1x404x2_0_0_416_0 (by push_cast; omega))
    (fun y h => ⟨_, List.mem_cons_self, mem7 416 404 0 2 inb_S1x1x820x2_S1x1x404x2_0_0_416_0 y (by omega) (by have : (y 2).val < 820 := (y 2).isLt; omega) (by omega) (by have : (y 3).val < 2 := (y 3).isLt; omega)⟩)
    (A7_writes arg7 x0 x1 x2 _ _ _ (fun _ => False) (fun r => r < 416) (slist0_ok c i arg3 harg3 arg4 harg4 arg5 harg5 arg8 arg9 x0 x1 x2 xt0 fs0 hQ)
      (slist0_cover c i arg3 harg3 arg4 harg4 arg5 harg5 arg8 arg9 x0 x1 x2 xt0 fs0) fun _ h => h.elim) y (by omega)
/-- The group reaches the second chunk of rows. -/
theorem scales_all (hg : 416 < (gsz c i xt0).toInt) (hQ : ¬ first i → Q x0 (gsz c i xt0) (arg8.view.read (Elt Ideal) fs0)) :
    arg7.view.read (Elt Ideal) (arg7.view.writes (Elt Ideal) (arg7.view.writes (Elt Ideal) f7 (slist0 (F := Ideal) c i arg3 harg3 arg4 harg4 arg5 harg5 arg8 arg9 x0 x1 x2 xt0 fs0))
        (slist1 (F := Ideal) c i arg3 harg3 arg4 harg4 arg5 harg5 arg8 arg9 x0 x1 x2 xt0 fs0))
      = G7 x0 x1 x2 (gsz c i xt0) := funext fun y => by
  exact A7_writes arg7 x0 x1 x2 _ _ _ _ (fun r => 416 ≤ r) (slist1_ok c i arg3 harg3 arg4 harg4 arg5 harg5 arg8 arg9 x0 x1 x2 xt0 fs0 hg hQ)
    (slist1_cover c i arg3 harg3 arg4 harg4 arg5 harg5 arg8 arg9 x0 x1 x2 xt0 fs0)
    (A7_writes arg7 x0 x1 x2 _ _ _ (fun _ => False) (fun r => r < 416) (slist0_ok c i arg3 harg3 arg4 harg4 arg5 harg5 arg8 arg9 x0 x1 x2 xt0 fs0 hQ)
      (slist0_cover c i arg3 harg3 arg4 harg4 arg5 harg5 arg8 arg9 x0 x1 x2 xt0 fs0) fun _ h => h.elim) y (by omega)

/-! ## The three buffers as the run leaves them -/

/-- The scratch of quantised rows after the run. -/
def fin8 : arg8.view.ty.Contents (Elt Ideal) :=
  if hc : k0_cond6 (gsz c i xt0) = 1#1 then
    if hc : k0_cond4 (gsz c i xt0) = 1#1 then
      if hc : kernelRun.sl.v4 i = 1#1 then
        arg8.view.writes (Elt Ideal) (arg8.view.writes (Elt Ideal) fs0 (xlist0 (F := Ideal) arg3 harg3 x0)) (xlist1 (F := Ideal) arg3 harg3 x0)
      else fs0
    else if hc : kernelRun.sl.v4 i = 1#1 then arg8.view.writes (Elt Ideal) fs0 (xlist1 (F := Ideal) arg3 harg3 x0) else fs0
  else
    if hc : k0_cond4 (gsz c i xt0) = 1#1 then
      if hc : kernelRun.sl.v4 i = 1#1 then arg8.view.writes (Elt Ideal) fs0 (xlist0 (F := Ideal) arg3 harg3 x0) else fs0
    else if hc : kernelRun.sl.v4 i = 1#1 then fs0 else fs0

theorem fin8_ok (hQ : ¬ first i → Q x0 (gsz c i xt0) (arg8.view.read (Elt Ideal) fs0)) :
    Q x0 (gsz c i xt0) (arg8.view.read (Elt Ideal) (fin8 c i arg3 harg3 arg8 x0 xt0 fs0)) := by
  have c4 := cond4_iff (gsz c i xt0)
  have c6 := cond6_iff (gsz c i xt0)
  unfold fin8
  by_cases h6 : k0_cond6 (gsz c i xt0) = 1#1
  · have h4 : k0_cond4 (gsz c i xt0) = 1#1 := c4.mpr (by have := c6.mp h6; omega)
    rw [dif_pos h6, dif_pos h4]
    by_cases h1 : kernelRun.sl.v4 i = 1#1
    · rw [dif_pos h1]; exact q_write1 arg3 harg3 arg8 x0 fs0 _
    · rw [dif_neg h1]; exact hQ h1
  · rw [dif_neg h6]
    have hg : (gsz c i xt0).toInt ≤ 416 := by have := c6.not.mp h6; omega
    by_cases h4 : k0_cond4 (gsz c i xt0) = 1#1
    · rw [dif_pos h4]
      by_cases h1 : kernelRun.sl.v4 i = 1#1
      · rw [dif_pos h1]; exact q_write0 arg3 harg3 arg8 x0 fs0 _ hg
      · rw [dif_neg h1]; exact hQ h1
    · exact q_none x0 _ (by have := c4.not.mp h4; omega) _

def st6a : arg6.view.ty.Contents (Elt Ideal) :=
  if hc : k0_cond4 (gsz c i xt0) = 1#1 then arg6.view.writes (Elt Ideal) f6 (clist0 (F := Ideal) c i arg3 harg3 arg4 harg4 arg5 harg5 arg8 arg9 x0 x1 x2 xt0 fs0) else f6
def st6b : arg6.view.ty.Contents (Elt Ideal) :=
  if hc : k0_cond5 (gsz c i xt0) = 1#1 then
    arg6.view.writes (Elt Ideal) (st6a c i arg3 harg3 arg4 harg4 arg5 harg5 arg6 arg8 arg9 x0 x1 x2 xt0 fs0 f6)
      [⟨Rect.unit (s := S1x820x256) ![0, 0, 0] S1x416x256.size inb_S1x820x256_S1x416x256_0_0_0, k0_pay242 (F := Ideal)⟩]
  else st6a c i arg3 harg3 arg4 harg4 arg5 harg5 arg6 arg8 arg9 x0 x1 x2 xt0 fs0 f6
def st6c : arg6.view.ty.Contents (Elt Ideal) :=
  if hc : k0_cond6 (gsz c i xt0) = 1#1 then
    arg6.view.writes (Elt Ideal) (st6b c i arg3 harg3 arg4 harg4 arg5 harg5 arg6 arg8 arg9 x0 x1 x2 xt0 fs0 f6)
      (clist1 (F := Ideal) c i arg3 harg3 arg4 harg4 arg5 harg5 arg8 arg9 x0 x1 x2 xt0 fs0)
  else st6b c i arg3 harg3 arg4 harg4 arg5 harg5 arg6 arg8 arg9 x0 x1 x2 xt0 fs0 f6
/-- The block of codes after the run. -/
def fin6 : arg6.view.ty.Contents (Elt Ideal) :=
  if hc : k0_cond7 (gsz c i xt0) = 1#1 then
    arg6.view.writes (Elt Ideal) (st6c c i arg3 harg3 arg4 harg4 arg5 harg5 arg6 arg8 arg9 x0 x1 x2 xt0 fs0 f6)
      [⟨Rect.unit (s := S1x820x256) ![0, 416, 0] S1x404x256.size inb_S1x820x256_S1x404x256_0_416_0, k0_pay1 (F := Ideal)⟩]
  else st6c c i arg3 harg3 arg4 harg4 arg5 harg5 arg6 arg8 arg9 x0 x1 x2 xt0 fs0 f6

theorem fin6_ok (hQ : ¬ first i → Q x0 (gsz c i xt0) (arg8.view.read (Elt Ideal) fs0)) :
    arg6.view.read (Elt Ideal) (fin6 c i arg3 harg3 arg4 harg4 arg5 harg5 arg6 arg8 arg9 x0 x1 x2 xt0 fs0 f6) = G6 x0 x1 x2 (gsz c i xt0) := by
  have c4 := cond4_iff (gsz c i xt0)
  have c5 := cond5_iff (gsz c i xt0)
  have c6 := cond6_iff (gsz c i xt0)
  have c7 := cond7_iff (gsz c i xt0)
  unfold fin6 st6c st6b st6a
  rcases lt_or_ge (416 : ℤ) (gsz c i xt0).toInt with h | h
  · rw [dif_neg (c7.not.mpr (by omega)), dif_pos (c6.mpr h), dif_neg (c5.not.mpr (by omega)), dif_pos (c4.mpr (by omega))]
    exact codes_all c i arg3 harg3 arg4 harg4 arg5 harg5 arg6 arg8 arg9 x0 x1 x2 xt0 fs0 f6 h hQ
  rcases lt_or_ge (0 : ℤ) (gsz c i xt0).toInt with h' | h'
  · rw [dif_pos (c7.mpr h), dif_neg (c6.not.mpr (by omega)), dif_neg (c5.not.mpr (by omega)), dif_pos (c4.mpr h')]
    exact codes_some c i arg3 harg3 arg4 harg4 arg5 harg5 arg6 arg8 arg9 x0 x1 x2 xt0 fs0 f6 h hQ
  · rw [dif_pos (c7.mpr h), dif_neg (c6.not.mpr (by omega)), dif_pos (c5.mpr h'), dif_neg (c4.not.mpr (by omega))]
    exact codes_none c i arg6 x0 x1 x2 xt0 f6 h'

def st7a : arg7.view.ty.Contents (Elt Ideal) :=
  if hc : k0_cond4 (gsz c i xt0) = 1#1 then arg7.view.writes (Elt Ideal) f7 (slist0 (F := Ideal) c i arg3 harg3 arg4 harg4 arg5 harg5 arg8 arg9 x0 x1 x2 xt0 fs0) else f7
def st7b : arg7.view.ty.Contents (Elt Ideal) :=
  if hc : k0_cond5 (gsz c i xt0) = 1#1 then
    arg7.view.writes (Elt Ideal) (st7a c i arg3 harg3 arg4 harg4 arg5 harg5 arg7 arg8 arg9 x0 x1 x2 xt0 fs0 f7)
      [⟨Rect.unit (s := S1x1x820x2) ![0, 0, 0, 0] S1x1x416x2.size inb_S1x1x820x2_S1x1x416x2_0_0_0_0, k0_pay243 (F := Ideal)⟩]
  else st7a c i arg3 harg3 arg4 harg4 arg5 harg5 arg7 arg8 arg9 x0 x1 x2 xt0 fs0 f7
def st7c : arg7.view.ty.Contents (Elt Ideal) :=
  if hc : k0_cond6 (gsz c i xt0) = 1#1 then
    arg7.view.writes (Elt Ideal) (st7b c i arg3 harg3 arg4 harg4 arg5 harg5 arg7 arg8 arg9 x0 x1 x2 xt0 fs0 f7)
      (slist1 (F := Ideal) c i arg3 harg3 arg4 harg4 arg5 harg5 arg8 arg9 x0 x1 x2 xt0 fs0)
  else st7b c i arg3 harg3 arg4 harg4 arg5 harg5 arg7 arg8 arg9 x0 x1 x2 xt0 fs0 f7
/-- The block of scales after the run. -/
def fin7 : arg7.view.ty.Contents (Elt Ideal) :=
  if hc : k0_cond7 (gsz c i xt0) = 1#1 then
    arg7.view.writes (Elt Ideal) (st7c c i arg3 harg3 arg4 harg4 arg5 harg5 arg7 arg8 arg9 x0 x1 x2 xt0 fs0 f7)
      [⟨Rect.unit (s := S1x1x820x2) ![0, 0, 416, 0] S1x1x404x2.size inb_S1x1x820x2_S1x1x404x2_0_0_416_0, k0_pay2 (F := Ideal)⟩]
  else st7c c i arg3 harg3 arg4 harg4 arg5 harg5 arg7 arg8 arg9 x0 x1 x2 xt0 fs0 f7

theorem fin7_ok (hQ : ¬ first i → Q x0 (gsz c i xt0) (arg8.view.read (Elt Ideal) fs0)) :
    arg7.view.read (Elt Ideal) (fin7 c i arg3 harg3 arg4 harg4 arg5 harg5 arg7 arg8 arg9 x0 x1 x2 xt0 fs0 f7) = G7 x0 x1 x2 (gsz c i xt0) := by
  have c4 := cond4_iff (gsz c i xt0)
  have c5 := cond5_iff (gsz c i xt0)
  have c6 := cond6_iff (gsz c i xt0)
  have c7 := cond7_iff (gsz c i xt0)
  unfold fin7 st7c st7b st7a
  rcases lt_or_ge (416 : ℤ) (gsz c i xt0).toInt with h | h
  · rw [dif_neg (c7.not.mpr (by omega)), dif_pos (c6.mpr h), dif_neg (c5.not.mpr (by omega)), dif_pos (c4.mpr (by omega))]
    exact scales_all c i arg3 harg3 arg4 harg4 arg5 harg5 arg7 arg8 arg9 x0 x1 x2 xt0 fs0 f7 h hQ
  rcases lt_or_ge (0 : ℤ) (gsz c i xt0).toInt with h' | h'
  · rw [dif_pos (c7.mpr h), dif_neg (c6.not.mpr (by omega)), dif_neg (c5.not.mpr (by omega)), dif_pos (c4.mpr h')]
    exact scales_some c i arg3 harg3 arg4 harg4 arg5 harg5 arg7 arg8 arg9 x0 x1 x2 xt0 fs0 f7 h hQ
  · rw [dif_pos (c7.mpr h), dif_neg (c6.not.mpr (by omega)), dif_pos (c5.mpr h'), dif_neg (c4.not.mpr (by omega))]
    exact scales_none c i arg7 x0 x1 x2 xt0 f7 h'

end

end Cert.KernelIdeal.Hand
end
-- ==== Proof.ValRun.lean ====
/- The kernel's body, run once at ideal values: the two output blocks hold the block's codes and scales, and the scratch
   holds the quantised rows of x for the points that follow. -/
module

public import proofs.«01_k».proof.Proof.Out

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The body's triple at ideal values. At the first point of an expert the scratch may hold anything; at the others it
    must hold the expert's quantised rows. -/
theorem valRun (c : Dev nD) (i : grid0.Coords) (arg3 : Memref sig .tc .vmem S1x820x2048 .bf16) (harg3 : arg3.IsWhole) (arg4 : Memref sig .tc .vmem S1x2x256x2048 .fp8e4m3) (harg4 : arg4.IsWhole) (arg5 : Memref sig .tc .smem S1x1x1x64 .f32) (harg5 : arg5.IsWhole) (arg6 : Memref sig .tc .vmem S1x820x256 .fp8e4m3) (harg6 : arg6.IsWhole) (arg7 : Memref sig .tc .vmem S1x1x820x2 .f32) (harg7 : arg7.IsWhole) (arg8 : Memref sig .tc .vmem S832x2048 .bf16) (harg8 : arg8.IsWhole) (arg9 : Memref sig .tc .vmem S2x256x2048 .bf16) (harg9 : arg9.IsWhole)
    (x0 : Vec Ideal S1x820x2048 .bf16) (x1 : Vec Ideal S1x2x256x2048 .fp8e4m3) (x2 : Vec Ideal S1x1x1x64 .f32) (xt0 : TbBuf0 (F := Ideal) c tbM0_0)
    (ds0 : S832x2048.Idx → EReal) (hQ : ¬ first i → Q x0 (gsz c i xt0) ds0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ owns (c : Thread nD τ) arg8 fullShare ds0 ∗ (∃ d, owns (c : Thread nD τ) arg9 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare (G6 x0 x1 x2 (gsz c i xt0)) ∗ owns (c : Thread nD τ) arg7 fullShare (G7 x0 x1 x2 (gsz c i xt0)) ∗ (∃ d, ⌜Q x0 (gsz c i xt0) d⌝ ∗ owns (c : Thread nD τ) arg8 fullShare d) ∗ (∃ d, owns (c : Thread nD τ) arg9 fullShare d) ∗ tbPt0 c tbM0_0 xt0) -∗ K ⟨⟩))
          ⊢ wp frame (wpE (defs₀ (F := Ideal)) Variants.none c none) E (cc0_swiglu i tbM0_0 htbM0_0 arg3 harg3 arg4 harg4 arg5 harg5 arg6 harg6 arg7 harg7 arg8 harg8 arg9 harg9) K := by
    intro E K
    simp only [cc0_swiglu_eq_skeleton]; unfold cc0_swiglu_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs, HS0⟩, ⟨%ds1, %fs1, -, HS1⟩, HT0, Hk⟩
    obtain rfl := harg3.eq_unread hf0; obtain rfl := harg4.eq_unread hf1; obtain rfl := harg5.eq_unread hf2
    subst hfs
    sl_exec_parts
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro; exact fin6_ok c i arg3 harg3 arg4 harg4 arg5 harg5 arg6 arg8 arg9 x0 x1 x2 xt0 fs0 f3 hQ
    isplitl [H4]
    · iexists _; isplitr; swap; · iexact H4
      ipureintro; exact fin7_ok c i arg3 harg3 arg4 harg4 arg5 harg5 arg7 arg8 arg9 x0 x1 x2 xt0 fs0 f4 hQ
    isplitl [HS0]
    · iexists (arg8.view.read (Elt Ideal) (fin8 c i arg3 harg3 arg8 x0 xt0 fs0)); isplitr
      · ipureintro; exact fin8_ok c i arg3 harg3 arg8 x0 xt0 fs0 hQ
      iexists _; isplitr; swap; · iexact HS0
      ipureintro; rfl
    isplitl [HS1]
    · iexists _, _; isplitr; swap; · iexact HS1
      ipureintro; rfl
    iexact HT0

end Cert.KernelIdeal.Hand

end
-- ==== Proof.Result.lean ====
/- The two results as functions of the four arguments. -/
module

public import proofs.«01_k».proof.Proof.Pieces

@[expose] public section

noncomputable section

namespace Cert.Spec

open Idealize.ShloMosaic
open Cert.KernelIdeal.Hand (lane xqE hidE)

variable (x : (⟨3, ![40, 820, 2048]⟩ : Shape).Idx → EReal) (gs : (⟨1, ![40]⟩ : Shape).Idx → BitVec 32)
    (w : (⟨4, ![40, 2, 1792, 2048]⟩ : Shape).Idx → EReal) (s : (⟨4, ![40, 2, 14, 16]⟩ : Shape).Idx → EReal)

/-- A weight: its code times its tile's scale. -/
def wA (e : Fin 40) (p : Fin 2) (d : Fin 1792) (k : Fin 2048) : EReal :=
  w (ValueIdx.ix4 e p d k) * s (ValueIdx.ix4 e p ⟨d.val / 128, by have := d.isLt; omega⟩ ⟨k.val / 128, by have := k.isLt; omega⟩)

/-- A hidden value: expert `e`, row `r`, column `d`. -/
def hA (e : Fin 40) (r : Fin 820) (d : Fin 1792) : EReal :=
  hidE (gs (ValueIdx.ix1 e)) r (xqE fun k => x (ValueIdx.ix3 e r k)) (wA w s e 0 d) (wA w s e 1 d)

/-- The codes. -/
def codesA (i : (⟨3, ![40, 820, 1792]⟩ : Shape).Idx) : EReal :=
  cd (fun l => hA x gs w s (i 0) (i 1) (lane (n := 14) (i 2) l)) ⟨(i 2).val % 128, Nat.mod_lt _ (by decide)⟩

/-- The scales, laid out by pairs of blocks of 128 columns, as the pallas_call leaves them. -/
def scalesA (i : (⟨4, ![40, 7, 820, 2]⟩ : Shape).Idx) : EReal :=
  sc fun l => hA x gs w s (i 0) (i 2) ⟨((i 1).val * 2 + (i 3).val) * 128 + l.val, by
    have h1 : (i 1).val < 7 := (i 1).isLt
    have h3 : (i 3).val < 2 := (i 3).isLt
    have := l.isLt; omega⟩

/-- The scales, one to a row and block of 128 columns. -/
def scalesB (i : (⟨3, ![40, 820, 14]⟩ : Shape).Idx) : EReal :=
  sc fun l => hA x gs w s (i 0) (i 1) ⟨(i 2).val * 128 + l.val, by
    have h2 : (i 2).val < 14 := (i 2).isLt
    have := l.isLt; omega⟩

end Cert.Spec
end
-- ==== Proof.Blocks.lean ====
/- The kernel's windows: which entries of the arrays each grid point's blocks are. -/
module

public import proofs.«01_k».proof.Proof.ValRun
public import proofs.«01_k».proof.Proof.Result
public import Idealize.ShloMosaic.Lib.Pipeline.ValueKit
public import Idealize.ShloMosaic.Lib.Claim

@[expose] public section

set_option maxRecDepth 16384

noncomputable section

namespace Cert.KernelIdeal.Hand

open Cert.KernelIdeal.Gen Cert.Spec
open Idealize.ShloMosaic Idealize.ShloMosaic.TcCoe
open Idealize.ShloMosaic.Pipeline (Dat Cfg Window)

variable (m : (ℓ : Loc nD τ sig) → Buf (Elt Ideal) ℓ)

/-- The point's expert. -/
def eOf (i : grid0.Coords) : Fin 40 := ⟨(i 0).val, (i 0).isLt⟩
/-- The point's block of 256 columns. -/
def jOf (i : grid0.Coords) : Fin 7 := ⟨(i 1).val, (i 1).isLt⟩

theorem w32 (n : ℕ) (h : n < 40) : (BitVec.ofNat 32 n).toNat = n := by
  rw [BitVec.toNat_ofNat]; omega

theorem iblk0_at (hO : Ok m) (c : Dev nD) (t : Fin (cfgM m hO).N) (r : Fin 820) (k : Fin 2048) :
    iblk m hO c 0 t (ValueIdx.ix3 0 r k : S1x820x2048.Idx) = V m c main_arg0 (ValueIdx.ix3 (eOf (grid0.coords t)) r k) := by
  have he := w32 _ (eOf (grid0.coords t)).isLt
  unfold iblk
  refine congrArg (V m c main_arg0) (funext fun a => Fin.ext ?_)
  match a with
  | ⟨0, _⟩ => show (BitVec.ofNat 32 (eOf (grid0.coords t)).val).toNat * 1 + 1 * 0 = _; rw [he]; show _ = (eOf (grid0.coords t)).val; omega
  | ⟨1, _⟩ => show 0 * 820 + 1 * r.val = r.val; omega
  | ⟨2, _⟩ => show 0 * 2048 + 1 * k.val = k.val; omega

theorem iblk1_at (hO : Ok m) (c : Dev nD) (t : Fin (cfgM m hO).N) (p : Fin 2) (o : Fin 256) (k : Fin 2048) :
    iblk m hO c 1 t (ValueIdx.ix4 0 p o k : S1x2x256x2048.Idx) = V m c main_arg2 (ValueIdx.ix4 (eOf (grid0.coords t)) p ⟨(jOf (grid0.coords t)).val * 256 + o.val, by have := (jOf (grid0.coords t)).isLt; omega⟩ k) := by
  have he := w32 _ (eOf (grid0.coords t)).isLt
  have hj := w32 (jOf (grid0.coords t)).val (by have := (jOf (grid0.coords t)).isLt; omega)
  unfold iblk
  refine congrArg (V m c main_arg2) (funext fun a => Fin.ext ?_)
  match a with
  | ⟨0, _⟩ => show (BitVec.ofNat 32 (eOf (grid0.coords t)).val).toNat * 1 + 1 * 0 = _; rw [he]; show _ = (eOf (grid0.coords t)).val; omega
  | ⟨1, _⟩ => show 0 * 2 + 1 * p.val = p.val; omega
  | ⟨2, _⟩ => show (BitVec.ofNat 32 (jOf (grid0.coords t)).val).toNat * 256 + 1 * o.val = _; rw [hj]; show _ = (jOf (grid0.coords t)).val * 256 + o.val; omega
  | ⟨3, _⟩ => show 0 * 2048 + 1 * k.val = k.val; omega

theorem iblk2_at (hO : Ok m) (c : Dev nD) (t : Fin (cfgM m hO).N) (q : Fin 64) :
    iblk m hO c 2 t (ValueIdx.ix4 0 0 0 q : S1x1x1x64.Idx) = V m c main_v2 (ValueIdx.ix4 (eOf (grid0.coords t)) (jOf (grid0.coords t)) 0 q) := by
  have he := w32 _ (eOf (grid0.coords t)).isLt
  have hj := w32 (jOf (grid0.coords t)).val (by have := (jOf (grid0.coords t)).isLt; omega)
  unfold iblk
  refine congrArg (V m c main_v2) (funext fun a => Fin.ext ?_)
  match a with
  | ⟨0, _⟩ => show (BitVec.ofNat 32 (eOf (grid0.coords t)).val).toNat * 1 + 1 * 0 = _; rw [he]; show _ = (eOf (grid0.coords t)).val; omega
  | ⟨1, _⟩ => show (BitVec.ofNat 32 (jOf (grid0.coords t)).val).toNat * 1 + 1 * 0 = _; rw [hj]; show _ = (jOf (grid0.coords t)).val; omega
  | ⟨2, _⟩ => rfl
  | ⟨3, _⟩ => show 0 * 64 + 1 * q.val = q.val; omega

/-- The group size of an expert, as the kernel reads it. -/
theorem gsz_at (c : Dev nD) (i : grid0.Coords) : gsz c i (tbl m 0) = V m 0 main_arg1 (ValueIdx.ix1 (eOf i)) := by
  have he := w32 _ (eOf i).isLt
  refine congrArg (V m 0 main_arg1) (funext fun a => Fin.ext ?_)
  match a with
  | ⟨0, _⟩ => show (BitVec.ofNat 32 (eOf i).val).toNat + 1 * 0 = _; rw [he]; rfl

/-- The scale word of a tile of weights: the host lays an expert's scales out block of columns by block of columns. -/
theorem V_scale (c : Dev nD) (e : Fin 40) (j : Fin 7) (p : Fin 2) (a : Fin 2) (b : Fin 16) :
    V m c main_v2 (ValueIdx.ix4 e j 0 ⟨(p.val * 2 + a.val) * 16 + b.val, by omega⟩)
      = m ((c : Thread nD τ).loc main_arg3) (ValueIdx.ix4 e p ⟨j.val * 2 + a.val, by omega⟩ b) := by
  unfold V V0 hostOps0
  simp only [List.flatten_cons, List.flatten_nil, List.append_nil]
  after_results
  show shapeCast S40x7x1x64 (transpose S40x7x2x2x16 [0, 2, 1, 3, 4] (shapeCast S40x2x7x2x16 (m ((c : Thread nD τ).loc main_arg3)) shapeCasts_S40x2x14x16_S40x2x7x2x16)
    transposes_S40x2x7x2x16_S40x7x2x2x16_0_2_1_3_4) shapeCasts_S40x7x2x2x16_S40x7x1x64 (ValueIdx.ix4 e j 0 ⟨(p.val * 2 + a.val) * 16 + b.val, by omega⟩) = _
  rw [shapeCast_apply _ shapeCasts_S40x7x2x2x16_S40x7x1x64 (ValueIdx.ix4 e j 0 ⟨(p.val * 2 + a.val) * 16 + b.val, by omega⟩) (ValueIdx.ix5 e j p a b) (by
      rw [Shape.rowMajor_val_four, Shape.rowMajor_val_five]
      show (((e.val * 7 + j.val) * 2 + p.val) * 2 + a.val) * 16 + b.val = ((e.val * 7 + j.val) * 1 + 0) * 64 + ((p.val * 2 + a.val) * 16 + b.val)
      omega),
    transpose_apply _ _ transposes_S40x2x7x2x16_S40x7x2x2x16_0_2_1_3_4 (ValueIdx.ix5 e j p a b) (ValueIdx.ix5 e p j a b) (fun q => match q with
      | ⟨0, _⟩ => rfl | ⟨1, _⟩ => rfl | ⟨2, _⟩ => rfl | ⟨3, _⟩ => rfl | ⟨4, _⟩ => rfl)]
  exact shapeCast_apply _ shapeCasts_S40x2x14x16_S40x2x7x2x16 (ValueIdx.ix5 e p j a b) (ValueIdx.ix4 e p ⟨j.val * 2 + a.val, by omega⟩ b) (by
      rw [Shape.rowMajor_val_four, Shape.rowMajor_val_five]
      show ((e.val * 2 + p.val) * 14 + (j.val * 2 + a.val)) * 16 + b.val = (((e.val * 2 + p.val) * 7 + j.val) * 2 + a.val) * 16 + b.val
      omega)

/-! ## The blocks' codes and scales as entries of the results -/

/-- The results, from the arguments as the launch finds them. -/
abbrev K6 (c : Dev nD) : S40x820x1792.Idx → EReal :=
  codesA (m ((c : Thread nD τ).loc main_arg0)) (m ((c : Thread nD τ).loc main_arg1)) (m ((c : Thread nD τ).loc main_arg2)) (m ((c : Thread nD τ).loc main_arg3))
abbrev K7 (c : Dev nD) : S40x7x820x2.Idx → EReal :=
  scalesA (m ((c : Thread nD τ).loc main_arg0)) (m ((c : Thread nD τ).loc main_arg1)) (m ((c : Thread nD τ).loc main_arg2)) (m ((c : Thread nD τ).loc main_arg3))

theorem gsz_eq (c : Dev nD) (i : grid0.Coords) : gsz c i (tbl m 0) = m ((c : Thread nD τ).loc main_arg1) (ValueIdx.ix1 (eOf i)) := by
  obtain rfl : c = 0 := Subsingleton.elim _ _
  rw [gsz_at, V_main_arg1]

theorem hE_at (hO : Ok m) (c : Dev nD) (t : Fin (cfgM m hO).N) (r : Fin 820) (o : Fin 256) :
    hE (iblk m hO c 0 t) (iblk m hO c 1 t) (iblk m hO c 2 t) (gsz c (grid0.coords t) (tbl m 0)) r o
      = hA (m ((c : Thread nD τ).loc main_arg0)) (m ((c : Thread nD τ).loc main_arg1)) (m ((c : Thread nD τ).loc main_arg2)) (m ((c : Thread nD τ).loc main_arg3))
          (eOf (grid0.coords t)) r ⟨(jOf (grid0.coords t)).val * 256 + o.val, by have := (jOf (grid0.coords t)).isLt; omega⟩ := by
  have hw : ∀ p : Fin 2, wE (iblk m hO c 1 t) (iblk m hO c 2 t) p o
      = wA (m ((c : Thread nD τ).loc main_arg2)) (m ((c : Thread nD τ).loc main_arg3)) (eOf (grid0.coords t)) p ⟨(jOf (grid0.coords t)).val * 256 + o.val, by have := (jOf (grid0.coords t)).isLt; omega⟩ := fun p => funext fun k => by
    have ho := o.isLt; have hk := k.isLt; have hp := p.isLt
    have hj := (jOf (grid0.coords t)).isLt
    unfold wE wA
    rw [iblk1_at m hO c t p o k, V_main_arg2]
    refine congrArg (fun u : EReal => _ * u) ?_
    refine (iblk2_at m hO c t _).trans ((V_scale m c (eOf (grid0.coords t)) (jOf (grid0.coords t)) p ⟨o.val / 128, by omega⟩ ⟨k.val / 128, by omega⟩).trans ?_)
    refine congrArg (fun a => m ((c : Thread nD τ).loc main_arg3) (ValueIdx.ix4 (eOf (grid0.coords t)) p a ⟨k.val / 128, by omega⟩)) (Fin.ext ?_)
    show (jOf (grid0.coords t)).val * 2 + o.val / 128 = ((jOf (grid0.coords t)).val * 256 + o.val) / 128
    omega
  have hx : (fun k => iblk m hO c 0 t (ValueIdx.ix3 0 r k : S1x820x2048.Idx)) = fun k => m ((c : Thread nD τ).loc main_arg0) (ValueIdx.ix3 (eOf (grid0.coords t)) r k) :=
    funext fun k => by rw [iblk0_at m hO c t r k, V_main_arg0]
  unfold hE hA
  rw [gsz_eq, hw, hw]
  exact congrArg (fun f => hidE _ _ (xqE f) _ _) hx

theorem G6_at (hO : Ok m) (c : Dev nD) (t : Fin (cfgM m hO).N) (r : Fin 820) (o : Fin 256) :
    G6 (iblk m hO c 0 t) (iblk m hO c 1 t) (iblk m hO c 2 t) (gsz c (grid0.coords t) (tbl m 0)) (ValueIdx.ix3 0 r o)
      = K6 m c (ValueIdx.ix3 (eOf (grid0.coords t)) r ⟨(jOf (grid0.coords t)).val * 256 + o.val, by have := (jOf (grid0.coords t)).isLt; omega⟩) := by
  have hj := (jOf (grid0.coords t)).isLt; have ho := o.isLt
  unfold K6 codesA G6 codeE
  simp only [hE_at]
  show cd (fun l => hA _ _ _ _ (eOf (grid0.coords t)) r _) _ = cd (fun l => hA _ _ _ _ (eOf (grid0.coords t)) r _) _
  congr 1
  · funext l
    have hl := l.isLt
    refine congrArg (hA _ _ _ _ _ _) (Fin.ext ?_)
    show (jOf (grid0.coords t)).val * 256 + (o.val / 128 * 128 + l.val) = ((jOf (grid0.coords t)).val * 256 + o.val) / 128 * 128 + l.val
    omega
  · apply Fin.ext
    show o.val % 128 = ((jOf (grid0.coords t)).val * 256 + o.val) % 128
    omega

theorem G7_at (hO : Ok m) (c : Dev nD) (t : Fin (cfgM m hO).N) (r : Fin 820) (b : Fin 2) :
    G7 (iblk m hO c 0 t) (iblk m hO c 1 t) (iblk m hO c 2 t) (gsz c (grid0.coords t) (tbl m 0)) (ValueIdx.ix4 0 0 r b)
      = K7 m c (ValueIdx.ix4 (eOf (grid0.coords t)) (jOf (grid0.coords t)) r b) := by
  have hj := (jOf (grid0.coords t)).isLt; have hb := b.isLt
  unfold K7 scalesA G7 scaleE
  simp only [hE_at]
  refine congrArg sc (funext fun l => congrArg (hA _ _ _ _ _ _) (Fin.ext ?_))
  show (jOf (grid0.coords t)).val * 256 + (b.val * 128 + l.val) = ((jOf (grid0.coords t)).val * 2 + b.val) * 128 + l.val
  omega

/-! ## The quantised rows, point after point -/

/-- What the scratch of quantised rows must hold for the point's expert. -/
def QA (c : Dev nD) (e : Fin 40) (d : S832x2048.Idx → EReal) : Prop :=
  ∀ (r : Fin 820) (k : Fin 2048), (r.val : ℤ) < (m ((c : Thread nD τ).loc main_arg1) (ValueIdx.ix1 e) : BitVec 32).toInt →
    d (ValueIdx.ix2 ⟨r.val, by have := r.isLt; omega⟩ k) = xqE (fun k => m ((c : Thread nD τ).loc main_arg0) (ValueIdx.ix3 e r k)) k

theorem Q_iff (hO : Ok m) (c : Dev nD) (t : Fin (cfgM m hO).N) (d : S832x2048.Idx → EReal) :
    Q (iblk m hO c 0 t) (gsz c (grid0.coords t) (tbl m 0)) d ↔ QA m c (eOf (grid0.coords t)) d := by
  have hx : ∀ r : Fin 820, (fun k => iblk m hO c 0 t (ValueIdx.ix3 0 r k : S1x820x2048.Idx)) = fun k => m ((c : Thread nD τ).loc main_arg0) (ValueIdx.ix3 (eOf (grid0.coords t)) r k) :=
    fun r => funext fun k => by rw [iblk0_at m hO c t r k, V_main_arg0]
  unfold Q QA
  rw [gsz_eq]
  refine forall_congr' fun r => forall_congr' fun k => imp_congr_right fun _ => ?_
  rw [hx r]

end Cert.KernelIdeal.Hand
end
-- ==== Proof.ValFrame.lean ====
/- The launch of `KernelIdeal` with its two results named: what each point leaves in the output blocks, and the scratch of
   quantised rows carried from point to point. -/
module

public import proofs.«01_k».proof.Proof.Blocks
public import Idealize.ShloMosaic.Lib.Pipeline.Covers

@[expose] public section

-- membership in a rectangle of production extents (`View.cover_of_tiled`): the elaborator's structural look
-- recurses once per coordinate of the long axes
set_option maxRecDepth 16384

noncomputable section

namespace Cert.KernelIdeal.Hand.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- What the scratch of quantised rows is known to hold before point `k`: inside an expert, the expert's rows. -/
def Known (c : Dev nD) (k : ℕ) (d : S832x2048.Idx → EReal) : Prop :=
  k % 7 ≠ 0 → ∀ e : Fin 40, e.val = k / 7 → QA m c e d

/-- The proof data of the one pipeline on core `c`: after the body at point `t` each input's buffer holds its block and the
    outputs the block's codes and scales; between points the scratch of quantised rows is known (`Known`). -/
def dats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => G6 (iblk m hO c 0 t) (iblk m hO c 1 t) (iblk m hO c 2 t) (gsz c (grid0.coords t) (tbl m 0))
    | ⟨4, _⟩ => G7 (iblk m hO c 0 t) (iblk m hO c 1 t) (iblk m hO c 2 t) (gsz c (grid0.coords t) (tbl m 0))
  Φ k := iprop((((∃ d, ⌜Known m c k.val d⌝ ∗ owns (c : Thread nD τ) scM0_0 fullShare d) ∗ (∃ d, owns (c : Thread nD τ) scM0_1 fullShare d)) ∗ (∃ r, prngReg c r)) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = G6 (iblk m hO c 0 t) (iblk m hO c 1 t) (iblk m hO c 2 t) (gsz c (grid0.coords t) (tbl m 0)) := by dsimp only [dats]; try rfl
theorem after0_4 (hO : Ok m) (c : Dev nD) (t : Fin (cfgM m hO).N) : (dats m hO 0 c).after 4 t = G7 (iblk m hO c 0 t) (iblk m hO c 1 t) (iblk m hO c 2 t) (gsz c (grid0.coords t) (tbl m 0)) := by dsimp only [dats]; try rfl

/-- The invariant before point `k`. -/
theorem Phi_eq (hO : Ok m) (c : Dev nD) (k : Fin ((cfgM m hO).N + 1)) : (dats m hO 0 c).Φ k
    = iprop((((∃ d, ⌜Known m c k.val d⌝ ∗ owns (c : Thread nD τ) scM0_0 fullShare d) ∗ (∃ d, owns (c : Thread nD τ) scM0_1 fullShare d)) ∗ (∃ r, prngReg c r)) ∗ tbPt0 c tbM0_0 (tbl m 0)) := by
  rw [← PhiT0_eq]; rfl

/-- Each input's current staging buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

theorem eOf_coords (t : Fin grid0.N) : (eOf (grid0.coords t)).val = t.val / 7 := by
  have ht : t.val < 280 := Nat.lt_of_lt_of_eq t.isLt N_0
  have e0 : (grid0.coords t 0).val = t.val / 7 % 40 := Pipeline.Grid.coords_val t 0 (by decide) rfl
  show (grid0.coords t 0).val = _
  omega

theorem known_before (hO : Ok m) (c : Dev nD) (t : Fin (cfgM m hO).N) (d : S832x2048.Idx → EReal) (h : Known m c t.val d)
    (hf : ¬ first (grid0.coords t)) : Q (iblk m hO c 0 t) (gsz c (grid0.coords t) (tbl m 0)) d :=
  (Q_iff m hO c t d).2 (h (fun h7 => hf ((hcond0_0 t).2 h7)) _ (eOf_coords t))

theorem known_after (hO : Ok m) (c : Dev nD) (t : Fin (cfgM m hO).N) (d : S832x2048.Idx → EReal)
    (h : Q (iblk m hO c 0 t) (gsz c (grid0.coords t) (tbl m 0)) d) : Known m c (t.val + 1) d := fun h7 e he => by
  obtain rfl : e = eOf (grid0.coords t) := Fin.ext (by have := eOf_coords t; omega)
  exact (Q_iff m hO c t d).1 h

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 2000000 in
/-- The body at any point: the inputs' memrefs hold their blocks and the scratch is known, so the run applies. -/
theorem sound_body (hO : Ok m) (c : Dev nD) (t : Fin (cfgM m hO).N) :
    bodyPre m hO c t ⊢ wp frame (wpE (defs₀ (F := Ideal)) Variants.none c none) Set.univ (bodyAt0 (adm m hO) t) (fun _ => bodyPost m hO c t) := by
  unfold bodyPre bodyPost bodyAt0
  simp only [before0_0, before0_1, before0_2]
  rw [show (dats m hO 0 c).owesAt () t.succ = (dats m hO 0 c).owesAt () t.castSucc from rfl,
    after0_0, after0_1, after0_2, after0_3, after0_4, Phi_eq, Phi_eq]
  iintro ⟨⟨⟨⟨⟨%ds0, %hs, HS0⟩, HS1⟩, Hg⟩, HT0⟩, Ho, ⟨%d0, H0⟩, ⟨%d1, H1⟩, ⟨%d2, H2⟩, ⟨%d3, H3⟩, ⟨%d4, H4⟩⟩
  iapply ((valRun c (grid0.coords t) _ _ _ _ _ _ _ _ _ _ _ _ _ _ (iblk m hO c 0 t) (iblk m hO c 1 t) (iblk m hO c 2 t) (tbl m 0) ds0
    (fun hf => known_before m hO c t ds0 hs hf)) Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HT0]; · iexact HT0
  iintro ⟨H0, H1, H2, H3, H4, ⟨%ds', %hs', HS0⟩, HS1, HT0⟩
  isplitl [HS0 HS1 Hg HT0]
  · isplitl [HS0 HS1 Hg]
    · isplitl [HS0 HS1]
      · isplitl [HS0]
        · iexists ds'; isplitr; · ipureintro; exact known_after m hO c t ds' hs'
          iexact HS0
        iexact HS1
      iexact Hg
    iexact HT0
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (hO : Ok m) (t : Fin (cfgM m hO).N) :
    defs₀ (F := Ideal) .tc (cfgM m hO).body ((cfgM m hO).bodyArgs t ((cfgM m hO).slots t)) = bodyAt0 (adm m hO) t := by
  unfold defs₀; rw [Defs.onTc_tc]

/-- A window written back at point `t` is left as the proof data says, whether or not the body may skip it there. -/
theorem left_of_flush {hO : Ok m} {c : Dev nD} (dat : Dat τ (Elt Ideal) Unit ℕ (UR sig nD τ) ℕ (cfgM m hO) c) (w : Fin (cfgM m hO).W) (t : Fin (cfgM m hO).N)
    (hf : ((cfgM m hO).win w).flush t = true) :
    (owns (c : Thread nD τ) (((cfgM m hO).win w).stage ((cfgM m hO).slots t w)) fullShare (dat.after w t) : sProp 𝕄)
      ⊢ match (cfgM m hO).idle w ((cfgM m hO).grid.coords t) with
        | true =>
          match ((cfgM m hO).win w).flush t with
          | false => iprop(∃ d, owns (c : Thread nD τ) (((cfgM m hO).win w).stage ((cfgM m hO).slots t w)) fullShare (dat.before w t d))
          | true => owns (c : Thread nD τ) (((cfgM m hO).win w).stage ((cfgM m hO).slots t w)) fullShare (dat.after w t)
        | false => owns (c : Thread nD τ) (((cfgM m hO).win w).stage ((cfgM m hO).slots t w)) fullShare (dat.after w t) := by
  rw [hf]
  cases (cfgM m hO).idle w ((cfgM m hO).grid.coords t) <;> exact .rfl

/-- The library's body obligation, at every point: the body's triple restated. -/
theorem body_obligation (hO : Ok m) (c : Dev nD) : BodyObligation (dats m hO 0 c) (defs₀ (F := Ideal)) Variants.none () Set.univ := fun t => by
  rw [bigSep_W0, bigSep_W0, defs₀_row m hO]
  exact triple_restated (sound_body m hO c t) rfl .rfl fun _ =>
    Laws.sep_mono_right <| Laws.sep_mono_right <| Laws.sep_mono_right <| Laws.sep_mono_right <| Laws.sep_mono_right <|
      BIClass.sep_mono (left_of_flush m (dats m hO 0 c) 3 t (flush0_3 (adm m hO) t)) (left_of_flush m (dats m hO 0 c) 4 t (flush0_4 (adm m hO) t))

/-! ## The run -/

theorem Phi_in (hO : Ok m) (c : Dev nD) : iprop(Pipeline.ΦA spec0 c ∗ Pipeline.ΦT pre0 (tbl m) c) ⊢ (dats m hO 0 c).Φ 0 := by
  rw [Phi_eq, PhiT0_eq, PhiA0_eq]
  iintro ⟨⟨⟨⟨%d, HS0⟩, HS1⟩, Hg⟩, HT0⟩
  isplitl [HS0 HS1 Hg]
  · isplitl [HS0 HS1]
    · isplitl [HS0]
      · iexists d; isplitr; · ipureintro; exact fun h => absurd rfl h
        iexact HS0
      iexact HS1
    iexact Hg
  iexact HT0

theorem Phi_out (hO : Ok m) (c : Dev nD) : (dats m hO 0 c).Φ (Fin.last (cfgM m hO).N) ⊢ Pipeline.ΦA spec0 c := by
  rw [Phi_eq, PhiA0_eq]
  iintro ⟨⟨⟨⟨%d, -, HS0⟩, HS1⟩, Hg⟩, -⟩
  isplitl [HS0 HS1]
  · isplitl [HS0]
    · iexists d; iexact HS0
    iexact HS1
  iexact Hg

/-- What a buffer that no window stages holds at the end: after the host operations that follow the region. -/
abbrev Wv (hO : Ok m) := Pipeline.afterTail pcfgs (fun _ => adm m hO) (dats m hO) (0 : Fin 1) (V0 m) [hostOps1]

set_option backward.isDefEq.respectTransparency.types false in
/-- The launch: every execution ends with each window's array at what the points leave in it, and every
    other buffer at what the host operations after the region leave in it. -/
theorem run_main (hO : Ok m) : θ_run defs (onTc (τ := τ) (main (F := Ideal))) (s₀ m ρ) (Pipeline.FramePost (Pipeline.pin pcfgs fun _ => adm m hO) (dats m hO) (0 : Fin 1) (Wv m hO)) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1])
    (hsub := sfx_sub) (hfresh := sfx_fresh) (hkeep := sfx_keeps) (hmain := hmain m Variants.none) (hA := A_eq m hO) (hpf := V_pre m)
    (hin := Phi_in m hO) (hout := Phi_out m hO)

end Cert.KernelIdeal.Hand.Val

end
-- ==== Proof.ValResult.lean ====
/- The two results of `KernelIdeal` after the run: the codes and the scales of the hidden values, the scales put in
   their final order by the host operations after the region. -/
module

public import proofs.«01_k».proof.Proof.ValFrame
public import Idealize.ShloMosaic.Lib.Pipeline.Covers

@[expose] public section

-- membership in a rectangle of production extents (`View.cover_of_tiled`): the elaborator's structural look
-- recurses once per coordinate of the long axes
set_option maxRecDepth 16384

noncomputable section

namespace Cert.KernelIdeal.Hand.Val

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Spec
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The two arrays after the run -/

theorem covers3 (hO : Ok m) : ((cfgM m hO).win 3).Covers := by
  have p : ((0 : ℕ) < 3) ∧ ((1 : ℕ) < 3) ∧ ((2 : ℕ) < 3) := by decide
  refine ((cfgM m hO).win 3).covers_of_indexMap_surj rfl (fun a => ?_) fun β => ?_
  · match a with
    | ⟨0, _⟩ => exact (by decide : 0 < 1)
    | ⟨1, _⟩ => exact (by decide : 0 < 820)
    | ⟨2, _⟩ => exact (by decide : 0 < 256)
  have h0 : (β ⟨0, p.1⟩).val < 40 := Nat.lt_of_lt_of_eq (β ⟨0, p.1⟩).isLt (show (40 + 1 - 1) / 1 = 40 from rfl)
  have h1 : (β ⟨1, p.2.1⟩).val < 1 := Nat.lt_of_lt_of_eq (β ⟨1, p.2.1⟩).isLt (show (820 + 820 - 1) / 820 = 1 from rfl)
  have h2 : (β ⟨2, p.2.2⟩).val < 7 := Nat.lt_of_lt_of_eq (β ⟨2, p.2.2⟩).isLt (show (1792 + 256 - 1) / 256 = 7 from rfl)
  refine ⟨fun a => match a with | ⟨0, _⟩ => ⟨(β ⟨0, p.1⟩).val, h0⟩ | ⟨1, _⟩ => ⟨(β ⟨2, p.2.2⟩).val, h2⟩, fun a => ?_⟩
  match a with
  | ⟨0, _⟩ => exact w32 (β ⟨0, p.1⟩).val (Nat.lt_of_lt_of_le h0 (by decide))
  | ⟨1, _⟩ => show 0 = (β ⟨1, p.2.1⟩).val; omega
  | ⟨2, _⟩ => exact w32 (β ⟨2, p.2.2⟩).val (Nat.lt_of_lt_of_le h2 (by decide))

theorem covers4 (hO : Ok m) : ((cfgM m hO).win 4).Covers := by
  have p : ((0 : ℕ) < 4) ∧ ((1 : ℕ) < 4) ∧ ((2 : ℕ) < 4) ∧ ((3 : ℕ) < 4) := by decide
  refine ((cfgM m hO).win 4).covers_of_indexMap_surj rfl (fun a => ?_) fun β => ?_
  · match a with
    | ⟨0, _⟩ => exact (by decide : 0 < 1)
    | ⟨1, _⟩ => exact (by decide : 0 < 1)
    | ⟨2, _⟩ => exact (by decide : 0 < 820)
    | ⟨3, _⟩ => exact (by decide : 0 < 2)
  have h0 : (β ⟨0, p.1⟩).val < 40 := Nat.lt_of_lt_of_eq (β ⟨0, p.1⟩).isLt (show (40 + 1 - 1) / 1 = 40 from rfl)
  have h1 : (β ⟨1, p.2.1⟩).val < 7 := Nat.lt_of_lt_of_eq (β ⟨1, p.2.1⟩).isLt (show (7 + 1 - 1) / 1 = 7 from rfl)
  have h2 : (β ⟨2, p.2.2.1⟩).val < 1 := Nat.lt_of_lt_of_eq (β ⟨2, p.2.2.1⟩).isLt (show (820 + 820 - 1) / 820 = 1 from rfl)
  have h3 : (β ⟨3, p.2.2.2⟩).val < 1 := Nat.lt_of_lt_of_eq (β ⟨3, p.2.2.2⟩).isLt (show (2 + 2 - 1) / 2 = 1 from rfl)
  refine ⟨fun a => match a with | ⟨0, _⟩ => ⟨(β ⟨0, p.1⟩).val, h0⟩ | ⟨1, _⟩ => ⟨(β ⟨1, p.2.1⟩).val, h1⟩, fun a => ?_⟩
  match a with
  | ⟨0, _⟩ => exact w32 (β ⟨0, p.1⟩).val (Nat.lt_of_lt_of_le h0 (by decide))
  | ⟨1, _⟩ => exact w32 (β ⟨1, p.2.1⟩).val (Nat.lt_of_lt_of_le h1 (by decide))
  | ⟨2, _⟩ => show 0 = (β ⟨2, p.2.2.1⟩).val; omega
  | ⟨3, _⟩ => show 0 = (β ⟨3, p.2.2.2⟩).val; omega

theorem arr3 (hO : Ok m) (c : Dev nD) : (dats m hO 0 c).arrAt 3 (cfgM m hO).N = K6 m c := by
  refine (dats m hO 0 c).arrAt_eq_of_covers 3 (K6 m c) (covers3 m hO) fun t _ y => ?_
  have he := w32 _ (eOf (grid0.coords t)).isLt
  have hj := w32 (jOf (grid0.coords t)).val (by have := (jOf (grid0.coords t)).isLt; omega)
  obtain ⟨z, r, o, rfl⟩ : ∃ (z : Fin 1) (r : Fin 820) (o : Fin 256), y = (ValueIdx.ix3 z r o : S1x820x256.Idx) := ⟨_, _, _, ValueIdx.eq_ix3 _⟩
  obtain rfl : z = 0 := Subsingleton.elim _ _
  refine (G6_at m hO c t r o).trans (congrArg (K6 m c) (funext fun a => Fin.ext ?_))
  match a with
  | ⟨0, _⟩ => show (eOf (grid0.coords t)).val = (BitVec.ofNat 32 (eOf (grid0.coords t)).val).toNat * 1 + 1 * 0; omega
  | ⟨1, _⟩ => show r.val = 0 * 820 + 1 * r.val; omega
  | ⟨2, _⟩ => show (jOf (grid0.coords t)).val * 256 + o.val = (BitVec.ofNat 32 (jOf (grid0.coords t)).val).toNat * 256 + 1 * o.val; omega

theorem arr4 (hO : Ok m) (c : Dev nD) : (dats m hO 0 c).arrAt 4 (cfgM m hO).N = K7 m c := by
  refine (dats m hO 0 c).arrAt_eq_of_covers 4 (K7 m c) (covers4 m hO) fun t _ y => ?_
  have he := w32 _ (eOf (grid0.coords t)).isLt
  have hj := w32 (jOf (grid0.coords t)).val (by have := (jOf (grid0.coords t)).isLt; omega)
  obtain ⟨z, z', r, b, rfl⟩ : ∃ (z z' : Fin 1) (r : Fin 820) (b : Fin 2), y = (ValueIdx.ix4 z z' r b : S1x1x820x2.Idx) := ⟨_, _, _, _, ValueIdx.eq_ix4 _⟩
  obtain rfl : z = 0 := Subsingleton.elim _ _
  obtain rfl : z' = 0 := Subsingleton.elim _ _
  refine (G7_at m hO c t r b).trans (congrArg (K7 m c) (funext fun a => Fin.ext ?_))
  match a with
  | ⟨0, _⟩ => show (eOf (grid0.coords t)).val = (BitVec.ofNat 32 (eOf (grid0.coords t)).val).toNat * 1 + 1 * 0; omega
  | ⟨1, _⟩ => show (jOf (grid0.coords t)).val = (BitVec.ofNat 32 (jOf (grid0.coords t)).val).toNat * 1 + 1 * 0; omega
  | ⟨2, _⟩ => show r.val = 0 * 820 + 1 * r.val; omega
  | ⟨3, _⟩ => show b.val = 0 * 2 + 1 * b.val; omega

/-! ## The host operations after the region -/

/-- The second result, from the arguments as the launch finds them. -/
abbrev K8 (c : Dev nD) : S40x820x14.Idx → EReal :=
  scalesB (m ((c : Thread nD τ).loc main_arg0)) (m ((c : Thread nD τ).loc main_arg1)) (m ((c : Thread nD τ).loc main_arg2)) (m ((c : Thread nD τ).loc main_arg3))

/-- The transposed and reshaped scales. -/
theorem tail_scales (c : Dev nD) :
    shapeCast S40x820x14 (transpose S40x820x7x2 [0, 2, 1, 3] (K7 m c) transposes_S40x7x820x2_S40x820x7x2_0_2_1_3) shapeCasts_S40x820x7x2_S40x820x14 = K8 m c := by
  funext y
  obtain ⟨e, r, q, rfl⟩ : ∃ (e : Fin 40) (r : Fin 820) (q : Fin 14), y = (ValueIdx.ix3 e r q : S40x820x14.Idx) := ⟨_, _, _, ValueIdx.eq_ix3 _⟩
  have hq := q.isLt
  rw [shapeCast_apply _ shapeCasts_S40x820x7x2_S40x820x14 (ValueIdx.ix3 e r q) (ValueIdx.ix4 e r (⟨q.val / 2, by omega⟩ : Fin 7) (⟨q.val % 2, by omega⟩ : Fin 2)) (by
      rw [Shape.rowMajor_val_four, Shape.rowMajor_val_three]
      show ((e.val * 820 + r.val) * 7 + q.val / 2) * 2 + q.val % 2 = (e.val * 820 + r.val) * 14 + q.val
      omega),
    transpose_apply _ _ transposes_S40x7x820x2_S40x820x7x2_0_2_1_3 (ValueIdx.ix4 e r (⟨q.val / 2, by omega⟩ : Fin 7) (⟨q.val % 2, by omega⟩ : Fin 2))
      (ValueIdx.ix4 e (⟨q.val / 2, by omega⟩ : Fin 7) r (⟨q.val % 2, by omega⟩ : Fin 2)) (fun a => match a with
      | ⟨0, _⟩ => rfl | ⟨1, _⟩ => rfl | ⟨2, _⟩ => rfl | ⟨3, _⟩ => rfl)]
  unfold K7 K8 scalesA scalesB
  refine congrArg sc (funext fun l => congrArg (hA _ _ _ _ _ _) (Fin.ext ?_))
  show (q.val / 2 * 2 + q.val % 2) * 128 + l.val = q.val * 128 + l.val
  omega

theorem W_v5 (hO : Ok m) (c : Dev nD) : Wv m hO c main_v5 = K8 m c := by
  have h4 : Pipeline.withArrays spec0 c (V0 (F := Ideal) m c) (fun w => (dats m hO 0 c).arrAt w (cfgM m hO).N) (Proc.devRef .tc main_v3_1) = K7 m c :=
    (Pipeline.withArrays_arr spec0 (launch0 (F := Ideal)).win.arr_inj c (V0 m c) (fun w => (dats m hO 0 c).arrAt w (cfgM m hO).N) 4).trans (arr4 m hO c)
  refine Eq.trans ?_ (tail_scales m c)
  rw [← h4]
  unfold Wv Pipeline.afterTail hostOps1
  simp only [List.flatten_cons, List.flatten_nil, List.append_nil]
  after_results
  rfl

theorem W_main_arg1 (hO : Ok m) (c : Dev nD) : Wv m hO c main_arg1 = m ((c : Thread nD τ).loc main_arg1) := by
  unfold Wv Pipeline.afterTail
  rw [StableHlo.after_of_forall_not_mem (b := Proc.devRef .tc main_arg1) _ _ (List.forall_iff_forall_mem.mp (by
      simp only [hostOps1, List.flatten_cons, List.flatten_nil, List.append_nil, List.Forall, StableHlo.unary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg3 (hO : Ok m) (c : Dev nD) : Wv m hO c main_arg3 = m ((c : Thread nD τ).loc main_arg3) := by
  unfold Wv Pipeline.afterTail
  rw [StableHlo.after_of_forall_not_mem (b := Proc.devRef .tc main_arg3) _ _ (List.forall_iff_forall_mem.mp (by
      simp only [hostOps1, List.flatten_cons, List.flatten_nil, List.append_nil, List.Forall, StableHlo.unary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The run: the results hold the codes and the scales, the arguments are unchanged. -/
theorem run_values (hO : Ok m) : θ_run defs (onTc (τ := τ) (main (F := Ideal))) ⟨m, fun _ => 0, ρ⟩ (fun r => ∀ c : Dev nD,
      r.2.mem ((c.tc : Thread nD τ).loc main_v3_0) = K6 m c
      ∧ r.2.mem ((c.tc : Thread nD τ).loc main_v5) = K8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.FramePost.out_eq h c 3).trans (arr3 m hO c), (Pipeline.FramePost.rest_eq h c main_v5 (by decide : main_v5 ∈ Pipeline.restRefs sig spec0)).trans (W_v5 m hO c),
      (Pipeline.FramePost.in_eq h c 0 rfl).trans ((A_eq m hO c 0).trans (V_main_arg0 m c)),
      (Pipeline.FramePost.rest_eq h c main_arg1 (by decide : main_arg1 ∈ Pipeline.restRefs sig spec0)).trans (W_main_arg1 m hO c),
      (Pipeline.FramePost.in_eq h c 1 rfl).trans ((A_eq m hO c 1).trans (V_main_arg2 m c)),
      (Pipeline.FramePost.rest_eq h c main_arg3 (by decide : main_arg3 ∈ Pipeline.restRefs sig spec0)).trans (W_main_arg3 m hO c)⟩) (run_main m ρ hO)

end Cert.KernelIdeal.Hand.Val

end
-- ==== Proof.RefRed.lean ====
/- Reductions along one axis and choices, read at the extended reals, for the reference's body. -/
module

public import proofs.«01_k».proof.Proof.Gen.ReferenceIdeal.Skeleton
public import proofs.«01_k».proof.Proof.Result
public import proofs.«01_k».proof.Proof.Values

@[expose] public section

set_option maxRecDepth 16384

noncomputable section

namespace Cert.ReferenceIdeal.Hand

open Cert.ReferenceIdeal.Gen Cert.Spec
open Idealize.ShloMosaic Idealize.ShloMosaic.TcCoe
open Cert.KernelIdeal.Hand (lane xqE hidE)

/-! ## Reductions along one axis, and choices -/

theorem maxRed {s t : Shape} {a : Fin s.rank} (h : s.Reduces [a] t) (v : FVec Ideal s .f32) (j : t.Idx) (f : Fin (s.size a) → EReal)
    (hf : ∀ k, v (h.lift j k) = f k) :
    multiReduction .maximumf [a] t v 0xFF800000#32 h (.inl rfl) rfl j = (Finset.univ : Finset (Fin (s.size a))).fold max (⊥ : EReal) f := by
  refine (Ideal.multiReduction_maximumf_single v _ h (.inl rfl) rfl j).trans ?_
  have hbot : (FloatOps.ofBits (F := Ideal) .f32 (FKind.maximumf.neutral .f32 (.inl rfl))) = (⊥ : EReal) := by
    show Ideal.ieee 8 23 0xFF800000#32 = ⊥
    unfold Ideal.ieee; simp
  rw [hbot]
  exact congrArg (fun f => (Finset.univ : Finset (Fin (s.size a))).fold max (⊥ : EReal) f) (funext hf)

theorem minRed {s t : Shape} {a : Fin s.rank} (h : s.Reduces [a] t) (v : FVec Ideal s .f32) (j : t.Idx) (f : Fin (s.size a) → EReal)
    (hf : ∀ k, v (h.lift j k) = f k) :
    multiReduction .minimumf [a] t v 0x7F800000#32 h (.inl rfl) rfl j = (Finset.univ : Finset (Fin (s.size a))).fold min (⊤ : EReal) f := by
  refine (multiReduction_minimumf_eq_fold (F := Ideal) v _ h (.inl rfl) rfl j).trans ?_
  refine (h.fold_filter_drop_single (FloatOps.minimumf (F := Ideal) (φ := .f32)) _ v j).trans ?_
  have htop : (FloatOps.ofBits (F := Ideal) .f32 (FKind.minimumf.neutral .f32 (.inl rfl))) = (⊤ : EReal) := by
    show Ideal.ieee 8 23 0x7F800000#32 = ⊤
    unfold Ideal.ieee; simp
  rw [htop]
  exact congrArg (fun f => (Finset.univ : Finset (Fin (s.size a))).fold min (⊤ : EReal) f) (funext hf)

/-- A product with the constant, entry by entry. -/
theorem mul448 {s : Shape} (v : FVec Ideal s .f32) (i : s.Idx) :
    mulf v (broadcast s (Scalar.ofBits (F := Ideal) .f32 0x3B124925#32)) i = v i * c448 := rfl

theorem select_ogt {α : Type} (p a : EReal) (u v : α) : Scalar.select (Ideal.cmp .ogt p a) u v = if a < p then u else v := by
  change Scalar.select (BitVec.ofBool (decide (a < p))) u v = _
  by_cases h : a < p
  · rw [if_pos h]; simp only [h, decide_true]; rfl
  · rw [if_neg h]; simp only [h, decide_false]; rfl

theorem select_olt {α : Type} (p a : EReal) (u v : α) : Scalar.select (Ideal.cmp .olt a p) u v = if a < p then u else v := by
  change Scalar.select (BitVec.ofBool (decide (a < p))) u v = _
  by_cases h : a < p
  · rw [if_pos h]; simp only [h, decide_true]; rfl
  · rw [if_neg h]; simp only [h, decide_false]; rfl

theorem ofBits_min : Ideal.ofBits .f32 0x00800000#32 = two (-126) :=
  (ofBits_shift 1 (by norm_num) (by norm_num)).trans (by norm_num)
theorem ofBits_max : Ideal.ofBits .f32 0x7E800000#32 = two 126 :=
  (ofBits_shift 253 (by norm_num) (by norm_num)).trans (by norm_num)

/-- The scale as the body spells it is the block's scale. -/
theorem scale_of (a m : EReal)
    (hm : m = (Finset.univ : Finset (Fin 252)).fold min ⊤ fun k : Fin 252 =>
      Scalar.select (Ideal.cmp .ogt (two ((k.val : ℤ) - 125)) a) (two ((k.val : ℤ) - 125)) (Ideal.ofBits .f32 0x7E800000#32)) :
    Scalar.select (Ideal.cmp .olt a (Ideal.ofBits .f32 0x00800000#32)) (Ideal.ofBits .f32 0x3F800000#32) m = scale a := by
  rw [hm, select_olt, ofBits_min, ofBits_max, Cert.KernelIdeal.Hand.ofBits_one]
  simp only [select_ogt]
  rfl
end Cert.ReferenceIdeal.Hand
end
-- ==== Proof.RefOut.lean ====
/- The reference's codes and scales of the hidden values, read entry by entry at the extended reals. -/
module

public import proofs.«01_k».proof.Proof.RefRed

@[expose] public section

set_option maxRecDepth 16384

noncomputable section

namespace Cert.ReferenceIdeal.Hand

open Cert.ReferenceIdeal.Gen Cert.Spec
open Idealize.ShloMosaic Idealize.ShloMosaic.TcCoe
open Cert.KernelIdeal.Hand (lane xqE hidE)

/-! ## The scales and codes of the hidden values -/

section
variable (P1 : Vec Ideal S1x1x1x252 .f32) (hP : ∀ k : Fin 252, P1 (ValueIdx.ix4 0 0 0 k) = two ((k.val : ℤ) - 125))

include hP in
theorem pay1_apply (a : FVec Ideal S40x820x14x1 .f32) (e : Fin 40) (r : Fin 820) (q : Fin 14) :
    k0_pay1 (F := Ideal) a P1 (ValueIdx.ix4 e r q 0) = scale (a (ValueIdx.ix4 e r q 0)) := by
  unfold k0_pay1
  refine scale_of _ _ ?_
  rw [shapeCast_apply _ shapeCasts_S40x820x14_S40x820x14x1 (ValueIdx.ix4 e r q 0) (ValueIdx.ix3 e r q) (by
    rw [Shape.rowMajor_val_three, Shape.rowMajor_val_four]
    show (e.val * 820 + r.val) * 14 + q.val = ((e.val * 820 + r.val) * 14 + q.val) * 1 + 0; omega)]
  refine minRed reduces_S40x820x14x252_S40x820x14 _ _ _ fun k => ?_
  have hi : (reduces_S40x820x14x252_S40x820x14).lift (ValueIdx.ix3 e r q) k = ValueIdx.ix4 e r q (k : Fin 252) :=
    funext fun a => match a with
      | ⟨0, _⟩ => rfl
      | ⟨1, _⟩ => rfl
      | ⟨2, _⟩ => rfl
      | ⟨3, _⟩ => rfl
  rw [hi]
  have hp : ∀ v : FVec Ideal S1x1x1x252 .f32, v (ValueIdx.ix4 0 0 0 (k : Fin 252)) = P1 (ValueIdx.ix4 0 0 0 (k : Fin 252)) →
      broadcastTo S40x820x14x252 v broadcasts_S1x1x1x252_S40x820x14x252 (ValueIdx.ix4 e r q (k : Fin 252)) = two (((k : Fin 252).val : ℤ) - 125) := fun v hv => by
    rw [broadcastTo_apply v broadcasts_S1x1x1x252_S40x820x14x252 (ValueIdx.ix4 e r q (k : Fin 252)) (ValueIdx.ix4 0 0 0 (k : Fin 252)) fun a => match a with
      | ⟨0, _⟩ => rfl
      | ⟨1, _⟩ => rfl
      | ⟨2, _⟩ => rfl
      | ⟨3, _⟩ => rfl]
    exact hv.trans (hP k)
  have h1 : shapeCast S1x1x1x252 P1 shapeCasts_S1x1x1x252_S1x1x1x252 (ValueIdx.ix4 0 0 0 (k : Fin 252))
      = P1 (ValueIdx.ix4 0 0 0 (k : Fin 252)) := by
    exact shapeCast_apply P1 _ _ _ rfl
  have hb : broadcastTo S40x820x14x252 a broadcasts_S40x820x14x1_S40x820x14x252 (ValueIdx.ix4 e r q (k : Fin 252)) = a (ValueIdx.ix4 e r q 0) :=
    broadcastTo_apply a broadcasts_S40x820x14x1_S40x820x14x252 (ValueIdx.ix4 e r q (k : Fin 252)) (ValueIdx.ix4 e r q 0) fun a => match a with
      | ⟨0, _⟩ => rfl
      | ⟨1, _⟩ => rfl
      | ⟨2, _⟩ => rfl
      | ⟨3, _⟩ => rfl
  show Scalar.select (Ideal.cmp .ogt (broadcastTo S40x820x14x252 _ broadcasts_S1x1x1x252_S40x820x14x252 (ValueIdx.ix4 e r q (k : Fin 252)))
    (broadcastTo S40x820x14x252 a broadcasts_S40x820x14x1_S40x820x14x252 (ValueIdx.ix4 e r q (k : Fin 252))))
    (broadcastTo S40x820x14x252 _ broadcasts_S1x1x1x252_S40x820x14x252 (ValueIdx.ix4 e r q (k : Fin 252))) (Ideal.ofBits .f32 0x7E800000#32) = _
  rw [hb, hp _ h1, hp _ ((shapeCast_apply _ _ _ _ rfl).trans h1)]

include hP in
/-- The scales stored. -/
theorem pay3_apply (a : FVec Ideal S40x820x14x1 .f32) (e : Fin 40) (r : Fin 820) (q : Fin 14) :
    k0_pay3 (F := Ideal) a P1 (ValueIdx.ix3 e r q) = scale (a (ValueIdx.ix4 e r q 0)) := by
  unfold k0_pay3
  rw [shapeCast_apply _ shapeCasts_S40x820x14x1_S40x820x14 (ValueIdx.ix3 e r q) (ValueIdx.ix4 e r q 0) (by
      rw [Shape.rowMajor_val_three, Shape.rowMajor_val_four]
      show ((e.val * 820 + r.val) * 14 + q.val) * 1 + 0 = (e.val * 820 + r.val) * 14 + q.val; omega)]
  exact pay1_apply P1 hP a e r q

include hP in
/-- The codes stored. -/
theorem pay2_apply (h : FVec Ideal S40x820x14x128 .f32) (a : FVec Ideal S40x820x14x1 .f32) (e : Fin 40) (r : Fin 820) (q : Fin 14) (l : Fin 128)
    (d : Fin 1792) (hd : d.val = q.val * 128 + l.val) :
    k0_pay2 (F := Ideal) h a P1 (ValueIdx.ix3 e r d) = code (h (ValueIdx.ix4 e r q l)) (scale (a (ValueIdx.ix4 e r q 0))) := by
  unfold k0_pay2
  rw [shapeCast_apply _ shapeCasts_S40x820x14x128_S40x820x1792 (ValueIdx.ix3 e r d) (ValueIdx.ix4 e r q l) (by
      rw [Shape.rowMajor_val_three, Shape.rowMajor_val_four]
      show ((e.val * 820 + r.val) * 14 + q.val) * 128 + l.val = (e.val * 820 + r.val) * 1792 + d.val; omega)]
  show min _ (max _ (Ideal.div (h (ValueIdx.ix4 e r q l)) (broadcastTo S40x820x14x128 _ broadcasts_S40x820x14x1_S40x820x14x128 (ValueIdx.ix4 e r q l)))) = _
  rw [broadcastTo_apply _ broadcasts_S40x820x14x1_S40x820x14x128 (ValueIdx.ix4 e r q l) (ValueIdx.ix4 e r q 0) (fun a => match a with
      | ⟨0, _⟩ => rfl
      | ⟨1, _⟩ => rfl
      | ⟨2, _⟩ => rfl
      | ⟨3, _⟩ => rfl), pay1_apply P1 hP a e r q]
  rfl
end

end Cert.ReferenceIdeal.Hand
end
-- ==== Proof.RefQuant.lean ====
/- The reference's quantised rows of x, read entry by entry at the extended reals. -/
module

public import proofs.«01_k».proof.Proof.RefRed

@[expose] public section

set_option maxRecDepth 16384

noncomputable section

namespace Cert.ReferenceIdeal.Hand

open Cert.ReferenceIdeal.Gen Cert.Spec
open Idealize.ShloMosaic Idealize.ShloMosaic.TcCoe
open Cert.KernelIdeal.Hand (lane xqE hidE)

/-! ## The quantised rows of x -/

/-- The blocks of a row of x, as the body spells them. -/
def rx (x : Vec Ideal S40x820x2048 .bf16) : FVec Ideal S40x820x16x128 .f32 :=
  shapeCast S40x820x16x128 (extf (F := Ideal) .f32 x bitsLt_bf16_f32) shapeCasts_S40x820x2048_S40x820x16x128

/-- Their scaled largest magnitudes. -/
def rxmax (h : FVec Ideal S40x820x16x128 .f32) : FVec Ideal S40x820x16x1 .f32 :=
  mulf (shapeCast S40x820x16x1 (multiReduction .maximumf [3] S40x820x16 (absf h) 0xFF800000#32 reduces_S40x820x16x128_S40x820x16 (.inl rfl) rfl)
    shapeCasts_S40x820x16_S40x820x16x1) (broadcast S40x820x16x1 (Scalar.ofBits (F := Ideal) .f32 0x3B124925#32))

/-- The candidates for a block's scale: the powers of two above its scaled largest magnitude, `2 ^ 126` elsewhere. -/
def rxcand (a : FVec Ideal S40x820x16x1 .f32) (P1 : Vec Ideal S1x1x1x252 .f32) : FVec Ideal S40x820x16x252 .f32 :=
  select (cmpf .ogt (broadcastTo S40x820x16x252 (shapeCast S1x1x1x252 P1 shapeCasts_S1x1x1x252_S1x1x1x252) broadcasts_S1x1x1x252_S40x820x16x252)
      (broadcastTo S40x820x16x252 a broadcasts_S40x820x16x1_S40x820x16x252))
    (broadcastTo S40x820x16x252 (shapeCast S1x1x1x252 (shapeCast S1x1x1x252 P1 shapeCasts_S1x1x1x252_S1x1x1x252) shapeCasts_S1x1x1x252_S1x1x1x252)
      broadcasts_S1x1x1x252_S40x820x16x252)
    (broadcast S40x820x16x252 (Scalar.ofBits (F := Ideal) .f32 0x7E800000#32))

/-- The blocks' scales. -/
def rxscl (a : FVec Ideal S40x820x16x1 .f32) (v : FVec Ideal S40x820x16x252 .f32) : FVec Ideal S40x820x16x1 .f32 :=
  select (cmpf .olt a (broadcast S40x820x16x1 (Scalar.ofBits (F := Ideal) .f32 0x00800000#32))) (broadcast S40x820x16x1 (Scalar.ofBits (F := Ideal) .f32 0x3F800000#32))
    (shapeCast S40x820x16x1 (multiReduction .minimumf [3] S40x820x16 v 0x7F800000#32 reduces_S40x820x16x252_S40x820x16 (.inl rfl) rfl) shapeCasts_S40x820x16_S40x820x16x1)

/-- Code times scale. -/
def rxq (h : FVec Ideal S40x820x16x128 .f32) (s : FVec Ideal S40x820x16x1 .f32) : FVec Ideal S40x820x16x128 .bf16 :=
  mulf (extf .bf16 (truncf .fp8e4m3 (minimumf (broadcast S40x820x16x128 (Scalar.ofBits (F := Ideal) .f32 0x43E00000#32))
      (maximumf (broadcast S40x820x16x128 (Scalar.ofBits (F := Ideal) .f32 0xC3E00000#32)) (divf h (broadcastTo S40x820x16x128 s broadcasts_S40x820x16x1_S40x820x16x128))))
      bitsLt_fp8e4m3_f32) bitsLt_fp8e4m3_bf16)
    (broadcastTo S40x820x16x128 (truncf .bf16 s bitsLt_bf16_f32) broadcasts_S40x820x16x1_S40x820x16x128)

theorem pay4_eq (x : Vec Ideal S40x820x2048 .bf16) (P1 : Vec Ideal S1x1x1x252 .f32) :
    k0_pay4 (F := Ideal) x P1 = shapeCast S40x820x2048 (rxq (rx x) (rxscl (rxmax (rx x)) (rxcand (rxmax (rx x)) P1))) shapeCasts_S40x820x16x128_S40x820x2048 := rfl

theorem rx_apply (x : Vec Ideal S40x820x2048 .bf16) (e : Fin 40) (r : Fin 820) (q : Fin 16) (j : Fin 128) (k : Fin 2048) (hk : k.val = q.val * 128 + j.val) :
    rx x (ValueIdx.ix4 e r q j) = x (ValueIdx.ix3 e r k) :=
  shapeCast_apply _ shapeCasts_S40x820x2048_S40x820x16x128 (ValueIdx.ix4 e r q j) (ValueIdx.ix3 e r k) (by
    rw [Shape.rowMajor_val_three, Shape.rowMajor_val_four]
    show (e.val * 820 + r.val) * 2048 + k.val = ((e.val * 820 + r.val) * 16 + q.val) * 128 + j.val; omega)

theorem rxcol (v : FVec Ideal S40x820x16 .f32) (e : Fin 40) (r : Fin 820) (q : Fin 16) :
    shapeCast S40x820x16x1 v shapeCasts_S40x820x16_S40x820x16x1 (ValueIdx.ix4 e r q 0) = v (ValueIdx.ix3 e r q) :=
  shapeCast_apply v shapeCasts_S40x820x16_S40x820x16x1 (ValueIdx.ix4 e r q 0) (ValueIdx.ix3 e r q) (by
    rw [Shape.rowMajor_val_three, Shape.rowMajor_val_four]
    show (e.val * 820 + r.val) * 16 + q.val = ((e.val * 820 + r.val) * 16 + q.val) * 1 + 0; omega)

theorem rxrow (v : S40x820x16x1.Idx → EReal) (e : Fin 40) (r : Fin 820) (q : Fin 16) (l : Fin 128) :
    broadcastTo S40x820x16x128 v broadcasts_S40x820x16x1_S40x820x16x128 (ValueIdx.ix4 e r q l) = v (ValueIdx.ix4 e r q 0) :=
  broadcastTo_apply v broadcasts_S40x820x16x1_S40x820x16x128 (ValueIdx.ix4 e r q l) (ValueIdx.ix4 e r q 0) fun a => match a with
    | ⟨0, _⟩ => rfl
    | ⟨1, _⟩ => rfl
    | ⟨2, _⟩ => rfl
    | ⟨3, _⟩ => rfl

theorem rxrow2 (v : S40x820x16x1.Idx → EReal) (e : Fin 40) (r : Fin 820) (q : Fin 16) (k : Fin 252) :
    broadcastTo S40x820x16x252 v broadcasts_S40x820x16x1_S40x820x16x252 (ValueIdx.ix4 e r q k) = v (ValueIdx.ix4 e r q 0) :=
  broadcastTo_apply v broadcasts_S40x820x16x1_S40x820x16x252 (ValueIdx.ix4 e r q k) (ValueIdx.ix4 e r q 0) fun a => match a with
    | ⟨0, _⟩ => rfl
    | ⟨1, _⟩ => rfl
    | ⟨2, _⟩ => rfl
    | ⟨3, _⟩ => rfl

theorem rxpow (v : FVec Ideal S1x1x1x252 .f32) (e : Fin 40) (r : Fin 820) (q : Fin 16) (k : Fin 252) :
    broadcastTo S40x820x16x252 v broadcasts_S1x1x1x252_S40x820x16x252 (ValueIdx.ix4 e r q k) = v (ValueIdx.ix4 0 0 0 k) :=
  broadcastTo_apply v broadcasts_S1x1x1x252_S40x820x16x252 (ValueIdx.ix4 e r q k) (ValueIdx.ix4 0 0 0 k) fun a => match a with
    | ⟨0, _⟩ => rfl
    | ⟨1, _⟩ => rfl
    | ⟨2, _⟩ => rfl
    | ⟨3, _⟩ => rfl

theorem rxmaxRed (h : FVec Ideal S40x820x16x128 .f32) (e : Fin 40) (r : Fin 820) (q : Fin 16) :
    multiReduction .maximumf [3] S40x820x16 (absf h) 0xFF800000#32 reduces_S40x820x16x128_S40x820x16 (.inl rfl) rfl (ValueIdx.ix3 e r q)
      = amax fun j => h (ValueIdx.ix4 e r q j) := by
  unfold amax
  refine maxRed reduces_S40x820x16x128_S40x820x16 _ _ (fun j : Fin 128 => max (h (ValueIdx.ix4 e r q j)) (-(h (ValueIdx.ix4 e r q j)))) fun j => ?_
  have hi : (reduces_S40x820x16x128_S40x820x16).lift (ValueIdx.ix3 e r q) j = ValueIdx.ix4 e r q (j : Fin 128) :=
    funext fun a => match a with
      | ⟨0, _⟩ => rfl
      | ⟨1, _⟩ => rfl
      | ⟨2, _⟩ => rfl
      | ⟨3, _⟩ => rfl
  rw [hi]
  rfl

theorem rxmax_apply (h : FVec Ideal S40x820x16x128 .f32) (e : Fin 40) (r : Fin 820) (q : Fin 16) :
    rxmax h (ValueIdx.ix4 e r q 0) = amax (fun j => h (ValueIdx.ix4 e r q j)) * c448 := by
  unfold rxmax
  rw [mul448, rxcol, rxmaxRed]

theorem rxcand_apply (a : FVec Ideal S40x820x16x1 .f32) (P1 : Vec Ideal S1x1x1x252 .f32) (hP : ∀ k : Fin 252, P1 (ValueIdx.ix4 0 0 0 k) = two ((k.val : ℤ) - 125))
    (e : Fin 40) (r : Fin 820) (q : Fin 16) (k : Fin 252) :
    rxcand a P1 (ValueIdx.ix4 e r q k) = Scalar.select (Ideal.cmp .ogt (two ((k.val : ℤ) - 125)) (a (ValueIdx.ix4 e r q 0))) (two ((k.val : ℤ) - 125)) (Ideal.ofBits .f32 0x7E800000#32) := by
  show Scalar.select (Ideal.cmp .ogt (broadcastTo S40x820x16x252 _ broadcasts_S1x1x1x252_S40x820x16x252 (ValueIdx.ix4 e r q k))
    (broadcastTo S40x820x16x252 _ broadcasts_S40x820x16x1_S40x820x16x252 (ValueIdx.ix4 e r q k)))
    (broadcastTo S40x820x16x252 _ broadcasts_S1x1x1x252_S40x820x16x252 (ValueIdx.ix4 e r q k)) (Ideal.ofBits .f32 0x7E800000#32) = _
  have h1 : shapeCast S1x1x1x252 P1 shapeCasts_S1x1x1x252_S1x1x1x252 (ValueIdx.ix4 0 0 0 k) = two ((k.val : ℤ) - 125) := (shapeCast_apply P1 _ _ _ rfl).trans (hP k)
  rw [rxrow2, rxpow, rxpow, shapeCast_apply (shapeCast S1x1x1x252 P1 shapeCasts_S1x1x1x252_S1x1x1x252) shapeCasts_S1x1x1x252_S1x1x1x252 (ValueIdx.ix4 0 0 0 k) (ValueIdx.ix4 0 0 0 k) rfl, h1]

theorem rxscl_apply (a : FVec Ideal S40x820x16x1 .f32) (P1 : Vec Ideal S1x1x1x252 .f32) (hP : ∀ k : Fin 252, P1 (ValueIdx.ix4 0 0 0 k) = two ((k.val : ℤ) - 125))
    (e : Fin 40) (r : Fin 820) (q : Fin 16) : rxscl a (rxcand a P1) (ValueIdx.ix4 e r q 0) = scale (a (ValueIdx.ix4 e r q 0)) := by
  refine scale_of _ _ ?_
  rw [rxcol]
  refine minRed reduces_S40x820x16x252_S40x820x16 _ _ _ fun j => ?_
  have hi : (reduces_S40x820x16x252_S40x820x16).lift (ValueIdx.ix3 e r q) j = ValueIdx.ix4 e r q (j : Fin 252) :=
    funext fun a => match a with
      | ⟨0, _⟩ => rfl
      | ⟨1, _⟩ => rfl
      | ⟨2, _⟩ => rfl
      | ⟨3, _⟩ => rfl
  rw [hi]
  exact rxcand_apply a P1 hP e r q j

theorem rxq_apply (h : FVec Ideal S40x820x16x128 .f32) (s : FVec Ideal S40x820x16x1 .f32) (e : Fin 40) (r : Fin 820) (q : Fin 16) (l : Fin 128) :
    rxq h s (ValueIdx.ix4 e r q l) = code (h (ValueIdx.ix4 e r q l)) (s (ValueIdx.ix4 e r q 0)) * s (ValueIdx.ix4 e r q 0) := by
  rw [← rxrow (s : S40x820x16x1.Idx → EReal) e r q l]
  rfl

theorem pay4_apply (P1 : Vec Ideal S1x1x1x252 .f32) (hP : ∀ k : Fin 252, P1 (ValueIdx.ix4 0 0 0 k) = two ((k.val : ℤ) - 125))
    (x : Vec Ideal S40x820x2048 .bf16) (e : Fin 40) (r : Fin 820) (k : Fin 2048) :
    k0_pay4 (F := Ideal) x P1 (ValueIdx.ix3 e r k) = xqE (fun k => x (ValueIdx.ix3 e r k)) k := by
  obtain ⟨q, l, hk⟩ : ∃ (q : Fin 16) (l : Fin 128), k.val = q.val * 128 + l.val :=
    ⟨⟨k.val / 128, by have := k.isLt; omega⟩, ⟨k.val % 128, by omega⟩, by show k.val = k.val / 128 * 128 + k.val % 128; omega⟩
  have hl := l.isLt
  have h2 : (⟨k.val % 128, Nat.mod_lt _ (by decide)⟩ : Fin 128) = l := Fin.ext (by show k.val % 128 = l.val; omega)
  have hx : ∀ j : Fin 128, rx x (ValueIdx.ix4 e r q j) = x (ValueIdx.ix3 e r (lane (n := 16) k j)) := fun j =>
    rx_apply x e r q j _ (by show k.val / 128 * 128 + j.val = q.val * 128 + j.val; omega)
  have hk' : k = lane (n := 16) k l := Fin.ext (by show k.val = k.val / 128 * 128 + l.val; omega)
  rw [pay4_eq, shapeCast_apply _ shapeCasts_S40x820x16x128_S40x820x2048 (ValueIdx.ix3 e r k) (ValueIdx.ix4 e r q l) (by
      rw [Shape.rowMajor_val_three, Shape.rowMajor_val_four]
      show ((e.val * 820 + r.val) * 16 + q.val) * 128 + l.val = (e.val * 820 + r.val) * 2048 + k.val; omega),
    rxq_apply, rxscl_apply _ P1 hP, rxmax_apply]
  simp only [hx]
  unfold xqE
  rw [h2]
  rfl

end Cert.ReferenceIdeal.Hand
end
-- ==== Proof.RefHid.lean ====
/- The reference's hidden values, read entry by entry at the extended reals. -/
module

public import proofs.«01_k».proof.Proof.RefRed

@[expose] public section

set_option maxRecDepth 16384

noncomputable section

namespace Cert.ReferenceIdeal.Hand

open Cert.ReferenceIdeal.Gen Cert.Spec
open Idealize.ShloMosaic Idealize.ShloMosaic.TcCoe
open Cert.KernelIdeal.Hand (lane xqE hidE)

/-! ## The hidden values -/

/-- A set of weights times its tiles' scales, as the body spells it. -/
def rwt (w : FVec Ideal S40x14x128x16x128 .bf16) (s : Vec Ideal S40x1x14x16 .f32) : FVec Ideal S40x1792x2048 .bf16 :=
  shapeCast S40x1792x2048 (mulf w (broadcastTo S40x14x128x16x128 (shapeCast S40x14x1x16x1 (truncf .bf16 (shapeCast S40x14x16 s shapeCasts_S40x1x14x16_S40x14x16) bitsLt_bf16_f32)
    shapeCasts_S40x14x16_S40x14x1x16x1) broadcasts_S40x14x1x16x1_S40x14x128x16x128)) shapeCasts_S40x14x128x16x128_S40x1792x2048

theorem rwt_apply (w : Vec Ideal S40x1x1792x2048 .fp8e4m3) (s : Vec Ideal S40x1x14x16 .f32) (e : Fin 40) (d : Fin 1792) (k : Fin 2048) :
    rwt (k0_pay5 w) s (ValueIdx.ix3 e d k) = w (ValueIdx.ix4 e 0 d k)
      * s (ValueIdx.ix4 e 0 ⟨d.val / 128, by have := d.isLt; omega⟩ ⟨k.val / 128, by have := k.isLt; omega⟩) := by
  obtain ⟨a, i, hd⟩ : ∃ (a : Fin 14) (i : Fin 128), d.val = a.val * 128 + i.val :=
    ⟨⟨d.val / 128, by have := d.isLt; omega⟩, ⟨d.val % 128, by omega⟩, by show d.val = d.val / 128 * 128 + d.val % 128; omega⟩
  obtain ⟨q, l, hk⟩ : ∃ (q : Fin 16) (l : Fin 128), k.val = q.val * 128 + l.val :=
    ⟨⟨k.val / 128, by have := k.isLt; omega⟩, ⟨k.val % 128, by omega⟩, by show k.val = k.val / 128 * 128 + k.val % 128; omega⟩
  have e1 : (⟨d.val / 128, by have := d.isLt; omega⟩ : Fin 14) = a := Fin.ext (by show d.val / 128 = a.val; have := i.isLt; omega)
  have e2 : (⟨k.val / 128, by have := k.isLt; omega⟩ : Fin 16) = q := Fin.ext (by show k.val / 128 = q.val; have := l.isLt; omega)
  rw [e1, e2]
  unfold rwt
  rw [shapeCast_apply _ shapeCasts_S40x14x128x16x128_S40x1792x2048 (ValueIdx.ix3 e d k) (ValueIdx.ix5 e a i q l) (by
    rw [Shape.rowMajor_val_three, Shape.rowMajor_val_five]
    show (((e.val * 14 + a.val) * 128 + i.val) * 16 + q.val) * 128 + l.val = (e.val * 1792 + d.val) * 2048 + k.val; omega)]
  show k0_pay5 w (ValueIdx.ix5 e a i q l) * broadcastTo S40x14x128x16x128 _ broadcasts_S40x14x1x16x1_S40x14x128x16x128 (ValueIdx.ix5 e a i q l) = _
  congr 1
  · unfold k0_pay5
    rw [shapeCast_apply _ shapeCasts_S40x1792x2048_S40x14x128x16x128 (ValueIdx.ix5 e a i q l) (ValueIdx.ix3 e d k) (by
      rw [Shape.rowMajor_val_three, Shape.rowMajor_val_five]
      show (e.val * 1792 + d.val) * 2048 + k.val = (((e.val * 14 + a.val) * 128 + i.val) * 16 + q.val) * 128 + l.val; omega)]
    exact shapeCast_apply w shapeCasts_S40x1x1792x2048_S40x1792x2048 (ValueIdx.ix3 e d k) (ValueIdx.ix4 e 0 d k) (by
      rw [Shape.rowMajor_val_three, Shape.rowMajor_val_four]
      show ((e.val * 1 + 0) * 1792 + d.val) * 2048 + k.val = (e.val * 1792 + d.val) * 2048 + k.val; omega)
  · rw [broadcastTo_apply _ broadcasts_S40x14x1x16x1_S40x14x128x16x128 (ValueIdx.ix5 e a i q l) (ValueIdx.ix5 e a 0 q 0) (fun a => match a with
        | ⟨0, _⟩ => rfl
        | ⟨1, _⟩ => rfl
        | ⟨2, _⟩ => rfl
        | ⟨3, _⟩ => rfl
        | ⟨4, _⟩ => rfl),
      shapeCast_apply _ shapeCasts_S40x14x16_S40x14x1x16x1 (ValueIdx.ix5 e a 0 q 0) (ValueIdx.ix3 e a q) (by
        rw [Shape.rowMajor_val_three, Shape.rowMajor_val_five]
        show (e.val * 14 + a.val) * 16 + q.val = (((e.val * 14 + a.val) * 1 + 0) * 16 + q.val) * 1 + 0; omega)]
    exact shapeCast_apply s shapeCasts_S40x1x14x16_S40x14x16 (ValueIdx.ix3 e a q) (ValueIdx.ix4 e 0 a q) (by
      rw [Shape.rowMajor_val_three, Shape.rowMajor_val_four]
      show ((e.val * 1 + 0) * 14 + a.val) * 16 + q.val = (e.val * 14 + a.val) * 16 + q.val; omega)

theorem rdot_apply (x : FVec Ideal S40x820x2048 .bf16) (w : FVec Ideal S40x1792x2048 .bf16) (e : Fin 40) (r : Fin 820) (d : Fin 1792) :
    matmul (F := Ideal) dot_S40x820x2048_S40x1792x2048_S40x820x1792_2_2_1_1_0_0 none x w (constant S40x820x1792 .f32 0x00000000#32) (ValueIdx.ix3 e r d)
      = ∑ k : Fin 2048, x (ValueIdx.ix3 e r k) * w (ValueIdx.ix3 e d k) := by
  refine (Ideal.matmul_apply₁_of dot_S40x820x2048_S40x1792x2048_S40x820x1792_2_2_1_1_0_0 (a := 2) rfl (K := 2048) rfl x w _ (ValueIdx.ix3 e r d)
    (fun k => ValueIdx.ix3 e r k) (fun k => ValueIdx.ix3 e d k) (fun k => ?_) (fun k => ?_)).trans ?_
  · funext a
    match a with
    | ⟨0, _⟩ => rfl
    | ⟨1, _⟩ => rfl
    | ⟨2, _⟩ => rfl
  · funext a
    match a with
    | ⟨0, _⟩ => rfl
    | ⟨1, _⟩ => rfl
    | ⟨2, _⟩ => rfl
  · show Ideal.ofBits .f32 0x00000000#32 + _ = _
    rw [Ideal.ofBits_zero_f32, zero_add]

theorem select_sgt0 {α : Type} (b : BitVec 32) (u v : α) : Scalar.select (IntOp.cmpi .sgt b 0#32) u v = if 0 < b.toInt then u else v := by
  change Scalar.select (BitVec.ofBool ((0#32).slt b)) u v = _
  rw [BitVec.slt_eq_decide]
  by_cases h : 0 < b.toInt
  · rw [if_pos h]; simp [h, Scalar.select]
  · rw [if_neg h]; simp [h, Scalar.select]

theorem pay6_apply (xq : FVec Ideal S40x820x2048 .bf16) (w0 : Vec Ideal S40x1x1792x2048 .fp8e4m3) (s0 : Vec Ideal S40x1x14x16 .f32) (w1 : Vec Ideal S40x1x1792x2048 .fp8e4m3)
    (s1 : Vec Ideal S40x1x14x16 .f32) (val : Vec Ideal S40x820x1 .i32) (e : Fin 40) (r : Fin 820) (q : Fin 14) (l : Fin 128)
    (d : Fin 1792) (hd : d.val = q.val * 128 + l.val) :
    k0_pay6 (F := Ideal) xq (k0_pay5 w0) s0 w1 s1 val (ValueIdx.ix4 e r q l)
      = if 0 < (val (ValueIdx.ix3 e r 0) : BitVec 32).toInt then
          ((∑ k : Fin 2048, xq (ValueIdx.ix3 e r k) * rwt (k0_pay5 w0) s0 (ValueIdx.ix3 e d k))
            * Ideal.logistic (∑ k : Fin 2048, xq (ValueIdx.ix3 e r k) * rwt (k0_pay5 w0) s0 (ValueIdx.ix3 e d k)))
            * ∑ k : Fin 2048, xq (ValueIdx.ix3 e r k) * rwt (k0_pay5 w1) s1 (ValueIdx.ix3 e d k)
        else 0 := by
  rw [← rdot_apply, ← rdot_apply]
  unfold k0_pay6
  rw [shapeCast_apply _ shapeCasts_S40x820x1792_S40x820x14x128 (ValueIdx.ix4 e r q l) (ValueIdx.ix3 e r d) (by
      rw [Shape.rowMajor_val_three, Shape.rowMajor_val_four]
      show (e.val * 820 + r.val) * 1792 + d.val = ((e.val * 820 + r.val) * 14 + q.val) * 128 + l.val; omega)]
  have hc : ∀ v : IVec S40x820x1 1, broadcastTo S40x820x1792 v broadcasts_S40x820x1_S40x820x1792 (ValueIdx.ix3 e r d) = v (ValueIdx.ix3 e r 0) := fun v =>
    broadcastTo_apply v broadcasts_S40x820x1_S40x820x1792 (ValueIdx.ix3 e r d) (ValueIdx.ix3 e r 0) fun a => match a with
      | ⟨0, _⟩ => rfl
      | ⟨1, _⟩ => rfl
      | ⟨2, _⟩ => rfl
  show Scalar.select (broadcastTo S40x820x1792 _ broadcasts_S40x820x1_S40x820x1792 (ValueIdx.ix3 e r d)) _ (Ideal.ofBits .f32 0x00000000#32) = _
  rw [hc, shapeCast_apply _ shapeCasts_S40x820x1_S40x820x1 (ValueIdx.ix3 e r 0) (ValueIdx.ix3 e r 0) rfl, Ideal.ofBits_zero_f32]
  show Scalar.select (IntOp.cmpi .sgt (shapeCast S40x820x1 val shapeCasts_S40x820x1_S40x820x1 (ValueIdx.ix3 e r 0)) 0#32) _ (0 : EReal) = _
  rw [shapeCast_apply val shapeCasts_S40x820x1_S40x820x1 (ValueIdx.ix3 e r 0) (ValueIdx.ix3 e r 0) rfl, select_sgt0]
  rfl

/-- The scaled largest magnitude of each block of 128, as the body spells it. -/
def rmax (h : FVec Ideal S40x820x14x128 .f32) : FVec Ideal S40x820x14x1 .f32 :=
  mulf (shapeCast S40x820x14x1 (multiReduction .maximumf [3] S40x820x14 (absf h) 0xFF800000#32 reduces_S40x820x14x128_S40x820x14 (.inl rfl) rfl)
    shapeCasts_S40x820x14_S40x820x14x1) (broadcast S40x820x14x1 (Scalar.ofBits (F := Ideal) .f32 0x3B124925#32))

theorem rmaxRed (h : FVec Ideal S40x820x14x128 .f32) (e : Fin 40) (r : Fin 820) (q : Fin 14) :
    multiReduction .maximumf [3] S40x820x14 (absf h) 0xFF800000#32 reduces_S40x820x14x128_S40x820x14 (.inl rfl) rfl (ValueIdx.ix3 e r q)
      = amax fun l => h (ValueIdx.ix4 e r q l) := by
  unfold amax
  refine maxRed reduces_S40x820x14x128_S40x820x14 _ _ (fun l : Fin 128 => max (h (ValueIdx.ix4 e r q l)) (-(h (ValueIdx.ix4 e r q l)))) fun l => ?_
  have hi : (reduces_S40x820x14x128_S40x820x14).lift (ValueIdx.ix3 e r q) l = ValueIdx.ix4 e r q (l : Fin 128) :=
    funext fun a => match a with
      | ⟨0, _⟩ => rfl
      | ⟨1, _⟩ => rfl
      | ⟨2, _⟩ => rfl
      | ⟨3, _⟩ => rfl
  rw [hi]
  rfl

theorem rmax_apply (h : FVec Ideal S40x820x14x128 .f32) (e : Fin 40) (r : Fin 820) (q : Fin 14) :
    rmax h (ValueIdx.ix4 e r q 0) = amax (fun l => h (ValueIdx.ix4 e r q l)) * c448 := by
  unfold rmax
  rw [mul448, shapeCast_apply _ shapeCasts_S40x820x14_S40x820x14x1 (ValueIdx.ix4 e r q 0) (ValueIdx.ix3 e r q) (by
    rw [Shape.rowMajor_val_three, Shape.rowMajor_val_four]
    show (e.val * 820 + r.val) * 14 + q.val = ((e.val * 820 + r.val) * 14 + q.val) * 1 + 0; omega), rmaxRed]

/-- The blocks' scaled largest magnitudes. -/
theorem pay7_eq (xq : FVec Ideal S40x820x2048 .bf16) (w0 : FVec Ideal S40x14x128x16x128 .bf16) (s0 : Vec Ideal S40x1x14x16 .f32) (w1 : Vec Ideal S40x1x1792x2048 .fp8e4m3)
    (s1 : Vec Ideal S40x1x14x16 .f32) (val : Vec Ideal S40x820x1 .i32) :
    k0_pay7 (F := Ideal) xq w0 s0 w1 s1 val = rmax (k0_pay6 (F := Ideal) xq w0 s0 w1 s1 val) := rfl

end Cert.ReferenceIdeal.Hand
end
-- ==== Proof.RefBody.lean ====
/- What the reference's one body leaves in its two outputs, as functions of its input blocks. -/
module

public import proofs.«01_k».proof.Proof.Gen.ReferenceIdeal.Frame
public import proofs.«01_k».proof.Proof.RefOut
public import proofs.«01_k».proof.Proof.RefQuant
public import proofs.«01_k».proof.Proof.RefHid

@[expose] public section

set_option maxRecDepth 16384

noncomputable section

namespace Cert.ReferenceIdeal.Hand

open Cert.ReferenceIdeal.Gen Cert.Spec
open Idealize.ShloMosaic Idealize.ShloMosaic.TcCoe
open Cert.KernelIdeal.Hand (lane xqE hidE)

theorem ldAt {s : Shape} {e : EltTy} (X : Vec Ideal s e) (r : Rect s) (y : r.shape.Idx) (z : s.Idx)
    (h : ∀ a, (z a).val = r.off a + r.stride a * (y a).val) : View.ld X r y = X z :=
  congrArg X (Rect.emb_eq_of_coords r y z h)

/-- One store that covers its buffer leaves what it stores. -/
theorem canon_one {s : Shape} {e : EltTy} (r : Rect s) (v : r.shape.Idx → Elt Ideal e) (G : s.Idx → Elt Ideal e) (h : ∀ x, v x = G (r.emb x)) (y : s.Idx)
    (hy : ∃ p ∈ ([⟨r, v⟩] : List (View.Piece (Elt Ideal) s e)), y ∈ p.1.set) : View.canon [⟨r, v⟩] y = G y := by
  refine View.canon_apply_of_pieces (Val := Elt Ideal) (e := e) G _ (fun p hp x => ?_) y hy
  obtain rfl := List.mem_singleton.mp hp
  exact h x

section
variable (x0 : Vec Ideal S40x820x2048 .bf16) (x1 : Vec Ideal S40x820x1 .i32) (x2 : Vec Ideal S40x2x1792x2048 .fp8e4m3) (x3 : Vec Ideal S40x2x14x16 .f32)
    (x4 : Vec Ideal S1x1x1x252 .f32) (gs : S40.Idx → BitVec 32)
    (hP : ∀ k : Fin 252, x4 (ValueIdx.ix4 0 0 0 k) = two ((k.val : ℤ) - 125))
    (hv : ∀ (e : Fin 40) (r : Fin 820), 0 < (x1 (ValueIdx.ix3 e r 0) : BitVec 32).toInt ↔ (r.val : ℤ) < (gs (ValueIdx.ix1 e)).toInt)

include hP in
theorem ld4 (k : Fin 252) : View.ld x4 r0_1 (ValueIdx.ix4 0 0 0 k) = two ((k.val : ℤ) - 125) :=
  (ldAt x4 r0_1 (ValueIdx.ix4 0 0 0 k) (ValueIdx.ix4 0 0 0 k) fun a => match a with
    | ⟨0, _⟩ => rfl
    | ⟨1, _⟩ => rfl
    | ⟨2, _⟩ => rfl
    | ⟨3, _⟩ => by show k.val = 0 + 1 * k.val; omega).trans (hP k)

theorem wt0 (e : Fin 40) (d : Fin 1792) (k : Fin 2048) :
    rwt (k0_pay5 (View.ld x2 r0_2)) (View.ld x3 r0_3) (ValueIdx.ix3 e d k) = wA x2 x3 e 0 d k := by
  rw [rwt_apply]
  unfold wA
  refine congrArg₂ (· * ·) (ldAt x2 r0_2 _ _ fun a => ?_) (ldAt x3 r0_3 _ _ fun a => ?_)
  · match a with
    | ⟨0, _⟩ => show e.val = 0 + 1 * e.val; omega
    | ⟨1, _⟩ => rfl
    | ⟨2, _⟩ => show d.val = 0 + 1 * d.val; omega
    | ⟨3, _⟩ => show k.val = 0 + 1 * k.val; omega
  · match a with
    | ⟨0, _⟩ => show e.val = 0 + 1 * e.val; omega
    | ⟨1, _⟩ => rfl
    | ⟨2, _⟩ => show d.val / 128 = 0 + 1 * (d.val / 128); omega
    | ⟨3, _⟩ => show k.val / 128 = 0 + 1 * (k.val / 128); omega

theorem wt1 (e : Fin 40) (d : Fin 1792) (k : Fin 2048) :
    rwt (k0_pay5 (View.ld x2 r0_4)) (View.ld x3 r0_5) (ValueIdx.ix3 e d k) = wA x2 x3 e 1 d k := by
  rw [rwt_apply]
  unfold wA
  refine congrArg₂ (· * ·) (ldAt x2 r0_4 _ _ fun a => ?_) (ldAt x3 r0_5 _ _ fun a => ?_)
  · match a with
    | ⟨0, _⟩ => show e.val = 0 + 1 * e.val; omega
    | ⟨1, _⟩ => rfl
    | ⟨2, _⟩ => show d.val = 0 + 1 * d.val; omega
    | ⟨3, _⟩ => show k.val = 0 + 1 * k.val; omega
  · match a with
    | ⟨0, _⟩ => show e.val = 0 + 1 * e.val; omega
    | ⟨1, _⟩ => rfl
    | ⟨2, _⟩ => show d.val / 128 = 0 + 1 * (d.val / 128); omega
    | ⟨3, _⟩ => show k.val / 128 = 0 + 1 * (k.val / 128); omega

include hP in
theorem xq_at (e : Fin 40) (r : Fin 820) (k : Fin 2048) :
    k0_pay4 (F := Ideal) (View.ld x0 r0_0) (View.ld x4 r0_1) (ValueIdx.ix3 e r k) = xqE (fun k => x0 (ValueIdx.ix3 e r k)) k := by
  rw [pay4_apply _ (ld4 x4 hP)]
  refine congrArg (fun f => xqE f k) (funext fun q => ldAt x0 r0_0 (ValueIdx.ix3 e r q) (ValueIdx.ix3 e r q) fun a => ?_)
  match a with
  | ⟨0, _⟩ => show e.val = 0 + 1 * e.val; omega
  | ⟨1, _⟩ => show r.val = 0 + 1 * r.val; omega
  | ⟨2, _⟩ => show q.val = 0 + 1 * q.val; omega

theorem val_at (e : Fin 40) (r : Fin 820) : View.ld x1 r0_6 (ValueIdx.ix3 e r 0) = x1 (ValueIdx.ix3 e r 0) :=
  ldAt x1 r0_6 (ValueIdx.ix3 e r 0) (ValueIdx.ix3 e r 0) fun a => match a with
    | ⟨0, _⟩ => by show e.val = 0 + 1 * e.val; omega
    | ⟨1, _⟩ => by show r.val = 0 + 1 * r.val; omega
    | ⟨2, _⟩ => rfl

/-- The body's hidden values. -/
abbrev rhid : FVec Ideal S40x820x14x128 .f32 :=
  k0_pay6 (k0_pay4 (View.ld x0 r0_0) (View.ld x4 r0_1)) (k0_pay5 (View.ld x2 r0_2)) (View.ld x3 r0_3) (View.ld x2 r0_4) (View.ld x3 r0_5) (View.ld x1 r0_6)

include hP hv in
theorem hid_at (e : Fin 40) (r : Fin 820) (q : Fin 14) (l : Fin 128) (d : Fin 1792) (hd : d.val = q.val * 128 + l.val) :
    rhid x0 x1 x2 x3 x4 (ValueIdx.ix4 e r q l) = hA x0 gs x2 x3 e r d := by
  unfold rhid
  rw [pay6_apply _ _ _ _ _ _ e r q l d hd]
  unfold hA hidE
  simp only [xq_at x0 x4 hP, wt0, wt1]
  exact if_congr ((iff_of_eq (congrArg (fun b : BitVec 32 => 0 < b.toInt) (val_at x1 e r))).trans (hv e r)) rfl rfl

include hP hv in
theorem scl_at (e : Fin 40) (r : Fin 820) (q : Fin 14) :
    rmax (rhid x0 x1 x2 x3 x4) (ValueIdx.ix4 e r q 0)
      = amax (fun l => hA x0 gs x2 x3 e r ⟨q.val * 128 + l.val, by have := l.isLt; omega⟩) * c448 := by
  rw [rmax_apply]
  exact congrArg (fun f => amax f * c448) (funext fun l => hid_at x0 x1 x2 x3 x4 gs hP hv e r q l _ rfl)

include hP hv in
theorem pay2_at (e : Fin 40) (r : Fin 820) (d : Fin 1792) :
    k0_pay2 (F := Ideal) (rhid x0 x1 x2 x3 x4) (rmax (rhid x0 x1 x2 x3 x4)) (View.ld x4 r0_1) (ValueIdx.ix3 e r d) = codesA x0 gs x2 x3 (ValueIdx.ix3 e r d) := by
  have hd := d.isLt
  have e1 : d.val = (⟨d.val / 128, by omega⟩ : Fin 14).val * 128 + (⟨d.val % 128, by omega⟩ : Fin 128).val := by
    show d.val = d.val / 128 * 128 + d.val % 128; omega
  rw [pay2_apply _ (ld4 x4 hP) _ _ e r _ _ d e1, scl_at x0 x1 x2 x3 x4 gs hP hv, hid_at x0 x1 x2 x3 x4 gs hP hv e r _ _ d e1]
  unfold codesA cd sc
  have h1 : ∀ l : Fin 128, (⟨d.val / 128 * 128 + l.val, by have := l.isLt; omega⟩ : Fin 1792) = lane (n := 14) d l := fun l => rfl
  have h2 : lane (n := 14) d (⟨d.val % 128, by omega⟩ : Fin 128) = d := Fin.ext (by show d.val / 128 * 128 + d.val % 128 = d.val; omega)
  refine congrArg₂ code ?_ (congrArg (fun f => scale (amax f * c448)) (funext fun l => congrArg (hA x0 gs x2 x3 e r) (h1 l)))
  exact congrArg (hA x0 gs x2 x3 e r) h2.symm

include hP hv in
theorem pay3_at (e : Fin 40) (r : Fin 820) (q : Fin 14) :
    k0_pay3 (F := Ideal) (rmax (rhid x0 x1 x2 x3 x4)) (View.ld x4 r0_1) (ValueIdx.ix3 e r q) = scalesB x0 gs x2 x3 (ValueIdx.ix3 e r q) := by
  rw [pay3_apply _ (ld4 x4 hP), scl_at x0 x1 x2 x3 x4 gs hP hv]
  rfl

include hP hv in
/-- The codes the body leaves. -/
theorem out5_at (y : S40x820x1792.Idx) : out0_5 (F := Ideal) x0 x1 x2 x3 x4 y = codesA x0 gs x2 x3 y := by
  unfold out0_5
  refine View.canon_apply_of_pieces (Val := Elt Ideal) (e := .fp8e4m3) (codesA x0 gs x2 x3) _ (fun p hp x => ?_) y (cover0_5 _ y)
  obtain rfl := List.mem_singleton.mp hp
  obtain ⟨e, r, d, rfl⟩ : ∃ (e : Fin 40) (r : Fin 820) (d : Fin 1792), x = (ValueIdx.ix3 e r d : S40x820x1792.Idx) := ⟨_, _, _, ValueIdx.eq_ix3 _⟩
  have he : r0_7.emb (ValueIdx.ix3 e r d) = (ValueIdx.ix3 e r d : S40x820x1792.Idx) := Rect.emb_eq_of_coords _ _ _ fun a => match a with
    | ⟨0, _⟩ => by show e.val = 0 + 1 * e.val; omega
    | ⟨1, _⟩ => by show r.val = 0 + 1 * r.val; omega
    | ⟨2, _⟩ => by show d.val = 0 + 1 * d.val; omega
  refine Eq.trans ?_ (congrArg (codesA x0 gs x2 x3) he.symm)
  unfold k0_pay10 k0_pay8 k0_pay9
  rw [pay7_eq]
  exact pay2_at x0 x1 x2 x3 x4 gs hP hv e r d

include hP hv in
/-- The scales the body leaves. -/
theorem out6_at (y : S40x820x14.Idx) : out0_6 (F := Ideal) x0 x1 x2 x3 x4 y = scalesB x0 gs x2 x3 y := by
  unfold out0_6 k0_pay10 k0_pay8 k0_pay9
  rw [pay7_eq]
  generalize hw : k0_pay3 (F := Ideal) (rmax (rhid x0 x1 x2 x3 x4)) (View.ld x4 r0_1) = w
  have hw' : ∀ x : S40x820x14.Idx, w x = scalesB x0 gs x2 x3 x := fun x => by
    obtain ⟨e, r, q, rfl⟩ : ∃ (e : Fin 40) (r : Fin 820) (q : Fin 14), x = (ValueIdx.ix3 e r q : S40x820x14.Idx) := ⟨_, _, _, ValueIdx.eq_ix3 _⟩
    rw [← hw]
    exact pay3_at x0 x1 x2 x3 x4 gs hP hv e r q
  clear hw
  have key : ∀ x : S40x820x14.Idx, w x = scalesB x0 gs x2 x3 (r0_8.emb x) := fun x => by
    obtain ⟨e, r, q, rfl⟩ : ∃ (e : Fin 40) (r : Fin 820) (q : Fin 14), x = (ValueIdx.ix3 e r q : S40x820x14.Idx) := ⟨_, _, _, ValueIdx.eq_ix3 _⟩
    have he : r0_8.emb (ValueIdx.ix3 e r q) = (ValueIdx.ix3 e r q : S40x820x14.Idx) := Rect.emb_eq_of_coords _ _ _ fun a => match a with
      | ⟨0, _⟩ => by show e.val = 0 + 1 * e.val; omega
      | ⟨1, _⟩ => by show r.val = 0 + 1 * r.val; omega
      | ⟨2, _⟩ => by show q.val = 0 + 1 * q.val; omega
    rw [he]
    exact hw' _
  exact canon_one (e := .f32) r0_8 w (scalesB x0 gs x2 x3) key y (cover0_6 (F := Ideal) w y)
end

end Cert.ReferenceIdeal.Hand
end
-- ==== Proof.RefHost.lean ====
/- What the reference's host operations before its launch leave: the powers of two, and which rows are in use. -/
module

public import proofs.«01_k».proof.Proof.Gen.ReferenceIdeal.Frame
public import proofs.«01_k».proof.Proof.Spec
public import Idealize.ShloMosaic.Lib.Pipeline.Value

@[expose] public section

set_option maxRecDepth 16384

noncomputable section

namespace Cert.ReferenceIdeal.Hand

open Cert.ReferenceIdeal.Gen Cert.Spec
open Idealize.ShloMosaic Idealize.ShloMosaic.TcCoe Idealize.ShloMosaic.Tactic

variable (m : (ℓ : Loc nD τ sig) → Buf (Elt Ideal) ℓ)

theorem ofBits_125 : Ideal.ofBits .f32 0x42FA0000#32 = ((125 : ℝ) : EReal) := by
  show Ideal.ieee 8 23 0x42FA0000#32 = _
  unfold Ideal.ieee; simp; rw [← EReal.coe_mul]; norm_num

theorem ofBits_2 : Ideal.ofBits .f32 0x40000000#32 = ((2 : ℝ) : EReal) :=
  (ofBits_shift 128 (by norm_num) (by norm_num)).trans (by unfold two; norm_num)

theorem ofNat_toInt (n : ℕ) (h : n < 1000) : (BitVec.ofNat 32 n).toInt = (n : ℤ) := by
  have h2 : (BitVec.ofNat 32 n).toNat = n := by rw [BitVec.toNat_ofNat]; omega
  rw [BitVec.toInt_eq_toNat_of_lt (by rw [h2]; omega), h2]

theorem pow_two (k : ℕ) (h : k < 252) :
    Ideal.pow (Ideal.ofBits .f32 0x40000000#32) ((((BitVec.ofNat 32 k).toInt : ℝ) : EReal) - Ideal.ofBits .f32 0x42FA0000#32) = two ((k : ℤ) - 125) := by
  rw [ofBits_2, ofBits_125, ofNat_toInt k (by omega), ← EReal.coe_sub]
  show ((Real.rpow 2 _ : ℝ) : EReal) = _
  unfold two
  congr 1
  have : (((k : ℤ) : ℝ) - 125) = (((k : ℤ) - 125 : ℤ) : ℝ) := by push_cast; ring
  rw [this]
  exact Real.rpow_intCast 2 _

theorem valid_iff (r : ℕ) (h : r < 820) (g : BitVec 32) :
    0 < (((IntOp.cmpi .slt (BitVec.ofNat 32 r) g : BitVec 1).setWidth 32 : BitVec 32)).toInt ↔ (r : ℤ) < g.toInt := by
  unfold IntOp.cmpi
  simp only [BitVec.slt_eq_decide, ofNat_toInt r (by omega)]
  by_cases hc : (r : ℤ) < g.toInt
  · simp [hc]
  · simp [hc]

/-- The powers of two. -/
theorem V_powers (c : Dev nD) (k : Fin 252) : V m c main_v10 (ValueIdx.ix4 0 0 0 k) = two ((k.val : ℤ) - 125) := by
  unfold V hostOps0
  after_results
  exact pow_two k.val k.isLt

/-- The rows in use. -/
theorem V_valid (c : Dev nD) (e : Fin 40) (r : Fin 820) :
    0 < (V m c main_v4 (ValueIdx.ix3 e r 0) : BitVec 32).toInt ↔ (r.val : ℤ) < (m ((c : Thread nD τ).loc main_arg1) (ValueIdx.ix1 e) : BitVec 32).toInt := by
  have hV : (V m c main_v4 (ValueIdx.ix3 e r 0) : BitVec 32)
      = (IntOp.cmpi .slt (BitVec.ofNat 32 r.val) (m ((c : Thread nD τ).loc main_arg1) (ValueIdx.ix1 e) : BitVec 32) : BitVec 1).setWidth 32 := by
    unfold V hostOps0
    after_results
    have h1 : broadcastInDim S40x1x1 ![0] bcast_S40_S40x1x1_0 (m ((c : Thread nD τ).loc main_arg1)) (ValueIdx.ix3 e 0 0) = m ((c : Thread nD τ).loc main_arg1) (ValueIdx.ix1 e) :=
      broadcastInDim_apply _ _ _ _ (ValueIdx.ix1 e) fun a => match a with | ⟨0, _⟩ => rfl
    have h2 : broadcastInDim S40x820x1 ![0, 1, 2] bcast_S40x1x1_S40x820x1_0_1_2 (broadcastInDim S40x1x1 ![0] bcast_S40_S40x1x1_0 (m ((c : Thread nD τ).loc main_arg1))) (ValueIdx.ix3 e r 0)
        = m ((c : Thread nD τ).loc main_arg1) (ValueIdx.ix1 e) :=
      (broadcastInDim_apply _ _ _ _ (ValueIdx.ix3 e 0 0) fun a => match a with | ⟨0, _⟩ => rfl | ⟨1, _⟩ => rfl | ⟨2, _⟩ => rfl).trans h1
    exact congrArg (fun g : BitVec 32 => ((IntOp.cmpi .slt (BitVec.ofNat 32 r.val) g : BitVec 1).setWidth 32 : BitVec 32)) h2
  rw [hV]
  exact valid_iff r.val r.isLt _

end Cert.ReferenceIdeal.Hand
end
-- ==== Proof.RefValue.lean ====
/- The two results of `ReferenceIdeal` after the run: the codes and the scales of the hidden values. -/
module

public import proofs.«01_k».proof.Proof.Gen.ReferenceIdeal.Value
public import proofs.«01_k».proof.Proof.RefBody
public import proofs.«01_k».proof.Proof.RefHost
public import Idealize.ShloMosaic.Lib.Pipeline.Covers

@[expose] public section

set_option maxRecDepth 16384

noncomputable section

namespace Cert.ReferenceIdeal.Hand

open Cert.ReferenceIdeal.Gen Cert.Spec
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-! ## The input blocks are the whole arrays -/

theorem blk0 (c : Dev nD) (t : Fin cfg0.N) : (iblk m c 0 t : S40x820x2048.Idx → EReal) = m ((c : Thread nD τ).loc main_arg0) := by
  rw [← V_main_arg0 m c]
  funext y
  unfold iblk
  refine congrArg (V m c main_arg0) (funext fun a => Fin.ext ?_)
  match a with
  | ⟨0, _⟩ => show 0 * 40 + 1 * (y 0).val = (y 0).val; omega
  | ⟨1, _⟩ => show 0 * 820 + 1 * (y 1).val = (y 1).val; omega
  | ⟨2, _⟩ => show 0 * 2048 + 1 * (y 2).val = (y 2).val; omega

theorem blk1 (c : Dev nD) (t : Fin cfg0.N) : (iblk m c 1 t : S40x820x1.Idx → BitVec 32) = V m c main_v4 := by
  funext y
  unfold iblk
  refine congrArg (V m c main_v4) (funext fun a => Fin.ext ?_)
  match a with
  | ⟨0, _⟩ => show 0 * 40 + 1 * (y 0).val = (y 0).val; omega
  | ⟨1, _⟩ => show 0 * 820 + 1 * (y 1).val = (y 1).val; omega
  | ⟨2, _⟩ => show 0 * 1 + 1 * (y 2).val = (y 2).val; omega

theorem blk2 (c : Dev nD) (t : Fin cfg0.N) : (iblk m c 2 t : S40x2x1792x2048.Idx → EReal) = m ((c : Thread nD τ).loc main_arg2) := by
  rw [← V_main_arg2 m c]
  funext y
  unfold iblk
  refine congrArg (V m c main_arg2) (funext fun a => Fin.ext ?_)
  match a with
  | ⟨0, _⟩ => show 0 * 40 + 1 * (y 0).val = (y 0).val; omega
  | ⟨1, _⟩ => show 0 * 2 + 1 * (y 1).val = (y 1).val; omega
  | ⟨2, _⟩ => show 0 * 1792 + 1 * (y 2).val = (y 2).val; omega
  | ⟨3, _⟩ => show 0 * 2048 + 1 * (y 3).val = (y 3).val; omega

theorem blk3 (c : Dev nD) (t : Fin cfg0.N) : (iblk m c 3 t : S40x2x14x16.Idx → EReal) = m ((c : Thread nD τ).loc main_arg3) := by
  rw [← V_main_arg3 m c]
  funext y
  unfold iblk
  refine congrArg (V m c main_arg3) (funext fun a => Fin.ext ?_)
  match a with
  | ⟨0, _⟩ => show 0 * 40 + 1 * (y 0).val = (y 0).val; omega
  | ⟨1, _⟩ => show 0 * 2 + 1 * (y 1).val = (y 1).val; omega
  | ⟨2, _⟩ => show 0 * 14 + 1 * (y 2).val = (y 2).val; omega
  | ⟨3, _⟩ => show 0 * 16 + 1 * (y 3).val = (y 3).val; omega

theorem blk4 (c : Dev nD) (t : Fin cfg0.N) : (iblk m c 4 t : S1x1x1x252.Idx → EReal) = V m c main_v10 := by
  funext y
  unfold iblk
  refine congrArg (V m c main_v10) (funext fun a => Fin.ext ?_)
  match a with
  | ⟨0, _⟩ => show 0 * 1 + 1 * (y 0).val = (y 0).val; omega
  | ⟨1, _⟩ => show 0 * 1 + 1 * (y 1).val = (y 1).val; omega
  | ⟨2, _⟩ => show 0 * 1 + 1 * (y 2).val = (y 2).val; omega
  | ⟨3, _⟩ => show 0 * 252 + 1 * (y 3).val = (y 3).val; omega

/-- The results, from the arguments as the launch finds them. -/
abbrev R5 (c : Dev nD) : S40x820x1792.Idx → EReal :=
  codesA (m ((c : Thread nD τ).loc main_arg0)) (m ((c : Thread nD τ).loc main_arg1)) (m ((c : Thread nD τ).loc main_arg2)) (m ((c : Thread nD τ).loc main_arg3))
abbrev R6 (c : Dev nD) : S40x820x14.Idx → EReal :=
  scalesB (m ((c : Thread nD τ).loc main_arg0)) (m ((c : Thread nD τ).loc main_arg1)) (m ((c : Thread nD τ).loc main_arg2)) (m ((c : Thread nD τ).loc main_arg3))

theorem after5 (c : Dev nD) (t : Fin cfg0.N) (y : S40x820x1792.Idx) :
    out0_5 (F := Ideal) (iblk m c 0 t) (iblk m c 1 t) (iblk m c 2 t) (iblk m c 3 t) (iblk m c 4 t) y = R5 m c y := by
  rw [blk0, blk1, blk2, blk3, blk4]
  exact out5_at _ _ _ _ _ _ (V_powers m c) (V_valid m c) y

theorem after6 (c : Dev nD) (t : Fin cfg0.N) (y : S40x820x14.Idx) :
    out0_6 (F := Ideal) (iblk m c 0 t) (iblk m c 1 t) (iblk m c 2 t) (iblk m c 3 t) (iblk m c 4 t) y = R6 m c y := by
  rw [blk0, blk1, blk2, blk3, blk4]
  exact out6_at _ _ _ _ _ _ (V_powers m c) (V_valid m c) y

/-! ## The two arrays after the run -/

theorem covers5 : (cfg0.win 5).Covers := by
  have p : ((0 : ℕ) < 3) ∧ ((1 : ℕ) < 3) ∧ ((2 : ℕ) < 3) := by decide
  refine (cfg0.win 5).covers_of_indexMap_surj rfl (fun a => ?_) fun β => ?_
  · match a with
    | ⟨0, _⟩ => exact (by decide : 0 < 40)
    | ⟨1, _⟩ => exact (by decide : 0 < 820)
    | ⟨2, _⟩ => exact (by decide : 0 < 1792)
  have h0 : (β ⟨0, p.1⟩).val < 1 := Nat.lt_of_lt_of_eq (β ⟨0, p.1⟩).isLt (show (40 + 40 - 1) / 40 = 1 from rfl)
  have h1 : (β ⟨1, p.2.1⟩).val < 1 := Nat.lt_of_lt_of_eq (β ⟨1, p.2.1⟩).isLt (show (820 + 820 - 1) / 820 = 1 from rfl)
  have h2 : (β ⟨2, p.2.2⟩).val < 1 := Nat.lt_of_lt_of_eq (β ⟨2, p.2.2⟩).isLt (show (1792 + 1792 - 1) / 1792 = 1 from rfl)
  refine ⟨grid0.coords ⟨0, by decide⟩, fun a => ?_⟩
  match a with
  | ⟨0, _⟩ => show 0 = (β ⟨0, p.1⟩).val; omega
  | ⟨1, _⟩ => show 0 = (β ⟨1, p.2.1⟩).val; omega
  | ⟨2, _⟩ => show 0 = (β ⟨2, p.2.2⟩).val; omega

theorem covers6 : (cfg0.win 6).Covers := by
  have p : ((0 : ℕ) < 3) ∧ ((1 : ℕ) < 3) ∧ ((2 : ℕ) < 3) := by decide
  refine (cfg0.win 6).covers_of_indexMap_surj rfl (fun a => ?_) fun β => ?_
  · match a with
    | ⟨0, _⟩ => exact (by decide : 0 < 40)
    | ⟨1, _⟩ => exact (by decide : 0 < 820)
    | ⟨2, _⟩ => exact (by decide : 0 < 14)
  have h0 : (β ⟨0, p.1⟩).val < 1 := Nat.lt_of_lt_of_eq (β ⟨0, p.1⟩).isLt (show (40 + 40 - 1) / 40 = 1 from rfl)
  have h1 : (β ⟨1, p.2.1⟩).val < 1 := Nat.lt_of_lt_of_eq (β ⟨1, p.2.1⟩).isLt (show (820 + 820 - 1) / 820 = 1 from rfl)
  have h2 : (β ⟨2, p.2.2⟩).val < 1 := Nat.lt_of_lt_of_eq (β ⟨2, p.2.2⟩).isLt (show (14 + 14 - 1) / 14 = 1 from rfl)
  refine ⟨grid0.coords ⟨0, by decide⟩, fun a => ?_⟩
  match a with
  | ⟨0, _⟩ => show 0 = (β ⟨0, p.1⟩).val; omega
  | ⟨1, _⟩ => show 0 = (β ⟨1, p.2.1⟩).val; omega
  | ⟨2, _⟩ => show 0 = (β ⟨2, p.2.2⟩).val; omega

theorem arr5 (c : Dev nD) : (dats m 0 c).arrAt 5 cfg0.N = R5 m c := by
  refine (dats m 0 c).arrAt_eq_of_covers 5 (R5 m c) covers5 fun t _ y => ?_
  refine (congrFun (after0_5 m c t) _).trans ?_
  refine (after5 m c t _).trans (congrArg (R5 m c) (funext fun a => Fin.ext ?_))
  match a with
  | ⟨0, _⟩ => show (y ⟨0, _⟩).val = 0 * 40 + 1 * (y ⟨0, _⟩).val; omega
  | ⟨1, _⟩ => show (y ⟨1, _⟩).val = 0 * 820 + 1 * (y ⟨1, _⟩).val; omega
  | ⟨2, _⟩ => show (y ⟨2, _⟩).val = 0 * 1792 + 1 * (y ⟨2, _⟩).val; omega

theorem arr6 (c : Dev nD) : (dats m 0 c).arrAt 6 cfg0.N = R6 m c := by
  refine (dats m 0 c).arrAt_eq_of_covers 6 (R6 m c) covers6 fun t _ y => ?_
  refine (congrFun (after0_6 m c t) _).trans ?_
  refine (after6 m c t _).trans (congrArg (R6 m c) (funext fun a => Fin.ext ?_))
  match a with
  | ⟨0, _⟩ => show (y ⟨0, _⟩).val = 0 * 40 + 1 * (y ⟨0, _⟩).val; omega
  | ⟨1, _⟩ => show (y ⟨1, _⟩).val = 0 * 820 + 1 * (y ⟨1, _⟩).val; omega
  | ⟨2, _⟩ => show (y ⟨2, _⟩).val = 0 * 14 + 1 * (y ⟨2, _⟩).val; omega

/-- The run: the results hold the codes and the scales, the arguments are unchanged. -/
theorem run_values : θ_run defs (onTc (τ := τ) (main (F := Ideal))) ⟨m, fun _ => 0, ρ⟩ fun r => ∀ c : Dev nD,
      r.2.mem ((c.tc : Thread nD τ).loc main_v11_0) = R5 m c
      ∧ r.2.mem ((c.tc : Thread nD τ).loc main_v11_1) = R6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (arr5 m c), (h c).2.1.trans (arr6 m c), (h c).2.2⟩) (Cert.ReferenceIdeal.Value.run_blocks m ρ)

end Cert.ReferenceIdeal.Hand
end
-- ==== Proof.lean ====
module

public import proofs.«01_k».proof.Defs
public import proofs.«01_k».proof.Proof.KernelFrame
public import proofs.«01_k».proof.Proof.IdealFrame
public import proofs.«01_k».proof.Proof.Gen.ReferenceIdeal.Frame
public import proofs.«01_k».proof.Proof.Gen.ReferenceIdeal.Value
public import proofs.«01_k».proof.Proof.ValResult
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- From equal arguments the idealized kernel and the reference leave the same codes and the same scales. -/
theorem algebraic : Cert.algebraic_KernelIdeal_ReferenceIdeal := fun m g m' g' _ h =>
  ⟨fun c => Cert.KernelIdeal.Hand.K6 m c, fun c => Cert.KernelIdeal.Hand.Val.K8 m c, Cert.KernelIdeal.Hand.Val.run_values m g trivial,
    (θ_run Cert.ReferenceIdeal.defs _ _).mono (fun _ hr c => by
      obtain ⟨h5, h6, hk⟩ := hr c
      obtain ⟨a0, a1, a2, a3⟩ := h c
      refine ⟨h5.trans ?_, h6.trans ?_, hk⟩
      · show Cert.Spec.codesA _ _ _ _ = Cert.Spec.codesA _ _ _ _
        rw [a0, a1, a2, a3]
      · show Cert.Spec.scalesB _ _ _ _ = Cert.Spec.scalesB _ _ _ _
        rw [a0, a1, a2, a3]) (Cert.ReferenceIdeal.Hand.run_values m' g')⟩

/-- The claims: the two kernels' frames, the reference's, that the idealized kernel is the kernel's own text, and that it
    computes the reference's results. -/
theorem claim : Cert.Claim := ⟨Cert.Kernel.Gen.facts, Cert.KernelIdeal.Gen.facts, Cert.ReferenceIdeal.Gen.facts,
  fun m ρ _ => Cert.Kernel.Hand.frame m ρ trivial,
  fun m ρ _ => Cert.KernelIdeal.Hand.frame m ρ trivial,
  fun m ρ _ => Cert.ReferenceIdeal.Gen.frame m ρ,
  trivial,
  algebraic⟩

end Cert.Proof

end
